-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_inside_clip [hKernelIdeal : Cert.KernelIdeal.Facts] [hReferenceIdeal : Cert.ReferenceIdeal.Facts] [hOn_inside_clip : Cert.On_inside_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 2048]⟩ : Shape).Idx, (Layout.block ⟨2, ![64, 2048]⟩ ⟨2, ![2048, 2048]⟩ 0 32 c ((Cert.On_inside_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![64, 2048]⟩ : Shape).Idx → _) i = 1#1 → r.2.mem ((c.tc : Thread Cert.KernelIdeal.nD Cert.KernelIdeal.τ).loc Cert.KernelIdeal.main_v1) i = (Layout.block ⟨2, ![64, 2048]⟩ ⟨2, ![2048, 2048]⟩ 0 32 c v0 : (⟨2, ![64, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_inside_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_inside_clip : Cert.On_inside_clip.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_inside_clip (hKernelIdeal := hKernelIdeal) (hReferenceIdeal := hReferenceIdeal) (hOn_inside_clip := hOn_inside_clip)
-- ==== On_inside_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x64 : Shape := ⟨2, ![2048, 64]⟩
abbrev S64x2048 : Shape := ⟨2, ![64, 2048]⟩
abbrev S2048x2048 : Shape := ⟨2, ![2048, 2048]⟩
abbrev S2x32x2048 : Shape := ⟨3, ![2, 32, 2048]⟩
abbrev S2 : Shape := ⟨1, ![2]⟩
abbrev S_ : Shape := ⟨0, ![]⟩
abbrev S32x2048 : Shape := ⟨2, ![32, 2048]⟩
abbrev S1x32x2048 : Shape := ⟨3, ![1, 32, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S64x2048, .f32⟩
  | .local _ .vmem, ⟨0, _⟩ => ⟨S2048x64, .bf16⟩
  | .local _ .vmem, ⟨1, _⟩ => ⟨S64x2048, .bf16⟩
  | .local _ .vmem, ⟨2, _⟩ => ⟨S64x2048, .f32⟩
  | .local _ .vmem, ⟨3, _⟩ => ⟨S2048x2048, .f32⟩
  | .local _ .vmem, ⟨4, _⟩ => ⟨S2x32x2048, .bf16⟩
  | .local _ .vmem, ⟨5, _⟩ => ⟨S2x32x2048, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_15 : BitVec 32 := 32#32
  let v21 : BitVec 32 := Scalar.addi v2 c32_i32_15
  let c1_i32_16 : BitVec 32 := 1#32
  let v22 : BitVec 32 := Scalar.subi v21 c1_i32_16
  let c32_i32_17 : BitVec 32 := 32#32
  let v23 : BitVec 32 := Scalar.remsi v22 c32_i32_17
  let c64_i32 : BitVec 32 := 64#32
  let v26 : BitVec 32 := Scalar.muli v23 c64_i32
  let v27 : Index := Scalar.indexCast v26
  let c0_20 : Index := 0#32
  ![v27.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v24 : BitVec 32 := Scalar.addi v2 c1_i32_18
  let c32_i32_19 : BitVec 32 := 32#32
  let v25 : BitVec 32 := Scalar.remsi v24 c32_i32_19
  let c64_i32_24 : BitVec 32 := 64#32
  let v33 : BitVec 32 := Scalar.muli v25 c64_i32_24
  let c32_i32_25 : BitVec 32 := 32#32
  let v34 : BitVec 32 := Scalar.addi v33 c32_i32_25
  let v35 : Index := Scalar.indexCast v34
  let c0_26 : Index := 0#32
  ![v35.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_34 : BitVec 32 := 1#32
  let v41 : BitVec 32 := Scalar.muli v7 c1_i32_34
  let v42 : BitVec 32 := Scalar.addi c0_i32_35 v41
  v42.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_63 : BitVec 32 := 1#32
  let v65 : BitVec 32 := Scalar.muli v5 c1_i32_63
  let v66 : BitVec 32 := Scalar.addi c0_i32_64 v65
  v66.toNat
def k0_off3 (d0 : Dev nD) (c0_i32_90 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_88 : BitVec 32 := 64#32
  let v89 : BitVec 32 := Scalar.addi v2 c64_i32_88
  let c2_i32_89 : BitVec 32 := 2#32
  let v90 : BitVec 32 := Scalar.subi v89 c2_i32_89
  let v91 : BitVec 32 := Scalar.subi v90 c0_i32_90
  let c32_i32_91 : BitVec 32 := 32#32
  let v92 : BitVec 32 := Scalar.remsi v91 c32_i32_91
  let c64_i32_97 : BitVec 32 := 64#32
  let v98 : BitVec 32 := Scalar.muli v92 c64_i32_97
  let v99 : Index := Scalar.indexCast v98
  let c0_98 : Index := 0#32
  ![v99.toNat, 0]
def k0_off4 (d0 : Dev nD) (c0_i32_93 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_92 : BitVec 32 := 2#32
  let v93 : BitVec 32 := Scalar.addi v2 c2_i32_92
  let v94 : BitVec 32 := Scalar.addi v93 c0_i32_93
  let c32_i32_94 : BitVec 32 := 32#32
  let v95 : BitVec 32 := Scalar.remsi v94 c32_i32_94
  let c64_i32_105 : BitVec 32 := 64#32
  let v109 : BitVec 32 := Scalar.muli v95 c64_i32_105
  let c32_i32_106 : BitVec 32 := 32#32
  let v110 : BitVec 32 := Scalar.addi v109 c32_i32_106
  let v111 : Index := Scalar.indexCast v110
  let c0_107 : Index := 0#32
  ![v111.toNat, 0]
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_115 : BitVec 32 := 1#32
  let v119 : BitVec 32 := Scalar.muli v7 c1_i32_115
  let v120 : BitVec 32 := Scalar.addi c0_i32_116 v119
  v120.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_144 : BitVec 32 := 1#32
  let v143 : BitVec 32 := Scalar.muli v5 c1_i32_144
  let v144 : BitVec 32 := Scalar.addi c0_i32_145 v143
  v144.toNat
def k0_dev7 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_197 : BitVec 32 := 1#32
  let v197 : BitVec 32 := Scalar.muli v7 c1_i32_197
  let v198 : BitVec 32 := Scalar.addi c0_i32_198 v197
  v198.toNat
def k0_dev8 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_226 : BitVec 32 := 1#32
  let v221 : BitVec 32 := Scalar.muli v5 c1_i32_226
  let v222 : BitVec 32 := Scalar.addi c0_i32_227 v221
  v222.toNat
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_279 : BitVec 32 := 1#32
  let v275 : BitVec 32 := Scalar.muli v7 c1_i32_279
  let v276 : BitVec 32 := Scalar.addi c0_i32_280 v275
  v276.toNat
def k0_dev10 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_308 : BitVec 32 := 1#32
  let v299 : BitVec 32 := Scalar.muli v5 c1_i32_308
  let v300 : BitVec 32 := Scalar.addi c0_i32_309 v299
  v300.toNat
def k0_dev11 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_360 : BitVec 32 := 1#32
  let v353 : BitVec 32 := Scalar.muli v7 c1_i32_360
  let v354 : BitVec 32 := Scalar.addi c0_i32_361 v353
  v354.toNat
def k0_dev12 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_389 : BitVec 32 := 1#32
  let v377 : BitVec 32 := Scalar.muli v5 c1_i32_389
  let v378 : BitVec 32 := Scalar.addi c0_i32_390 v377
  v378.toNat
def k0_dev13 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_441 : BitVec 32 := 1#32
  let v431 : BitVec 32 := Scalar.muli v7 c1_i32_441
  let v432 : BitVec 32 := Scalar.addi c0_i32_442 v431
  v432.toNat
def k0_dev14 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_470 : BitVec 32 := 1#32
  let v455 : BitVec 32 := Scalar.muli v5 c1_i32_470
  let v456 : BitVec 32 := Scalar.addi c0_i32_471 v455
  v456.toNat
def k0_dev15 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_522 : BitVec 32 := 1#32
  let v509 : BitVec 32 := Scalar.muli v7 c1_i32_522
  let v510 : BitVec 32 := Scalar.addi c0_i32_523 v509
  v510.toNat
def k0_dev16 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_551 : BitVec 32 := 1#32
  let v533 : BitVec 32 := Scalar.muli v5 c1_i32_551
  let v534 : BitVec 32 := Scalar.addi c0_i32_552 v533
  v534.toNat
def k0_dev17 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_603 : BitVec 32 := 1#32
  let v587 : BitVec 32 := Scalar.muli v7 c1_i32_603
  let v588 : BitVec 32 := Scalar.addi c0_i32_604 v587
  v588.toNat
def k0_dev18 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_632 : BitVec 32 := 1#32
  let v611 : BitVec 32 := Scalar.muli v5 c1_i32_632
  let v612 : BitVec 32 := Scalar.addi c0_i32_633 v611
  v612.toNat
def k0_dev19 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_684 : BitVec 32 := 1#32
  let v665 : BitVec 32 := Scalar.muli v7 c1_i32_684
  let v666 : BitVec 32 := Scalar.addi c0_i32_685 v665
  v666.toNat
def k0_dev20 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_713 : BitVec 32 := 1#32
  let v689 : BitVec 32 := Scalar.muli v5 c1_i32_713
  let v690 : BitVec 32 := Scalar.addi c0_i32_714 v689
  v690.toNat
def k0_dev21 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_765 : BitVec 32 := 1#32
  let v743 : BitVec 32 := Scalar.muli v7 c1_i32_765
  let v744 : BitVec 32 := Scalar.addi c0_i32_766 v743
  v744.toNat
def k0_dev22 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_794 : BitVec 32 := 1#32
  let v767 : BitVec 32 := Scalar.muli v5 c1_i32_794
  let v768 : BitVec 32 := Scalar.addi c0_i32_795 v767
  v768.toNat
def k0_dev23 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_846 : BitVec 32 := 1#32
  let v821 : BitVec 32 := Scalar.muli v7 c1_i32_846
  let v822 : BitVec 32 := Scalar.addi c0_i32_847 v821
  v822.toNat
def k0_dev24 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_875 : BitVec 32 := 1#32
  let v845 : BitVec 32 := Scalar.muli v5 c1_i32_875
  let v846 : BitVec 32 := Scalar.addi c0_i32_876 v845
  v846.toNat
def k0_dev25 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_927 : BitVec 32 := 1#32
  let v899 : BitVec 32 := Scalar.muli v7 c1_i32_927
  let v900 : BitVec 32 := Scalar.addi c0_i32_928 v899
  v900.toNat
def k0_dev26 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_956 : BitVec 32 := 1#32
  let v923 : BitVec 32 := Scalar.muli v5 c1_i32_956
  let v924 : BitVec 32 := Scalar.addi c0_i32_957 v923
  v924.toNat
def k0_dev27 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1008 : BitVec 32 := 1#32
  let v977 : BitVec 32 := Scalar.muli v7 c1_i32_1008
  let v978 : BitVec 32 := Scalar.addi c0_i32_1009 v977
  v978.toNat
def k0_dev28 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1037 : BitVec 32 := 1#32
  let v1001 : BitVec 32 := Scalar.muli v5 c1_i32_1037
  let v1002 : BitVec 32 := Scalar.addi c0_i32_1038 v1001
  v1002.toNat
def k0_dev29 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1089 : BitVec 32 := 1#32
  let v1055 : BitVec 32 := Scalar.muli v7 c1_i32_1089
  let v1056 : BitVec 32 := Scalar.addi c0_i32_1090 v1055
  v1056.toNat
def k0_dev30 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1118 : BitVec 32 := 1#32
  let v1079 : BitVec 32 := Scalar.muli v5 c1_i32_1118
  let v1080 : BitVec 32 := Scalar.addi c0_i32_1119 v1079
  v1080.toNat
def k0_dev31 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1170 : BitVec 32 := 1#32
  let v1133 : BitVec 32 := Scalar.muli v7 c1_i32_1170
  let v1134 : BitVec 32 := Scalar.addi c0_i32_1171 v1133
  v1134.toNat
def k0_dev32 (d0 : Dev nD) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1199 : BitVec 32 := 1#32
  let v1157 : BitVec 32 := Scalar.muli v5 c1_i32_1199
  let v1158 : BitVec 32 := Scalar.addi c0_i32_1200 v1157
  v1158.toNat
def k0_dev33 (d0 : Dev nD) : Nat :=
  let c0_i32_1252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1251 : BitVec 32 := 1#32
  let v1211 : BitVec 32 := Scalar.muli v7 c1_i32_1251
  let v1212 : BitVec 32 := Scalar.addi c0_i32_1252 v1211
  v1212.toNat
def k0_dev34 (d0 : Dev nD) : Nat :=
  let c0_i32_1281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1280 : BitVec 32 := 1#32
  let v1235 : BitVec 32 := Scalar.muli v5 c1_i32_1280
  let v1236 : BitVec 32 := Scalar.addi c0_i32_1281 v1235
  v1236.toNat
def k0_dev35 (d0 : Dev nD) : Nat :=
  let c0_i32_1333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1332 : BitVec 32 := 1#32
  let v1289 : BitVec 32 := Scalar.muli v7 c1_i32_1332
  let v1290 : BitVec 32 := Scalar.addi c0_i32_1333 v1289
  v1290.toNat
def k0_dev36 (d0 : Dev nD) : Nat :=
  let c0_i32_1362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1361 : BitVec 32 := 1#32
  let v1313 : BitVec 32 := Scalar.muli v5 c1_i32_1361
  let v1314 : BitVec 32 := Scalar.addi c0_i32_1362 v1313
  v1314.toNat
def k0_dev37 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1413 : BitVec 32 := 1#32
  let v1367 : BitVec 32 := Scalar.muli v7 c1_i32_1413
  let v1368 : BitVec 32 := Scalar.addi c0_i32_1414 v1367
  v1368.toNat
def k0_dev38 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1442 : BitVec 32 := 1#32
  let v1391 : BitVec 32 := Scalar.muli v5 c1_i32_1442
  let v1392 : BitVec 32 := Scalar.addi c0_i32_1443 v1391
  v1392.toNat
def k0_dev39 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1494 : BitVec 32 := 1#32
  let v1445 : BitVec 32 := Scalar.muli v7 c1_i32_1494
  let v1446 : BitVec 32 := Scalar.addi c0_i32_1495 v1445
  v1446.toNat
def k0_dev40 (d0 : Dev nD) : Nat :=
  let c0_i32_1524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1523 : BitVec 32 := 1#32
  let v1469 : BitVec 32 := Scalar.muli v5 c1_i32_1523
  let v1470 : BitVec 32 := Scalar.addi c0_i32_1524 v1469
  v1470.toNat
def k0_dev41 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1575 : BitVec 32 := 1#32
  let v1523 : BitVec 32 := Scalar.muli v7 c1_i32_1575
  let v1524 : BitVec 32 := Scalar.addi c0_i32_1576 v1523
  v1524.toNat
def k0_dev42 (d0 : Dev nD) : Nat :=
  let c0_i32_1605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1604 : BitVec 32 := 1#32
  let v1547 : BitVec 32 := Scalar.muli v5 c1_i32_1604
  let v1548 : BitVec 32 := Scalar.addi c0_i32_1605 v1547
  v1548.toNat
def k0_dev43 (d0 : Dev nD) : Nat :=
  let c0_i32_1657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1656 : BitVec 32 := 1#32
  let v1601 : BitVec 32 := Scalar.muli v7 c1_i32_1656
  let v1602 : BitVec 32 := Scalar.addi c0_i32_1657 v1601
  v1602.toNat
def k0_dev44 (d0 : Dev nD) : Nat :=
  let c0_i32_1686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1685 : BitVec 32 := 1#32
  let v1625 : BitVec 32 := Scalar.muli v5 c1_i32_1685
  let v1626 : BitVec 32 := Scalar.addi c0_i32_1686 v1625
  v1626.toNat
def k0_dev45 (d0 : Dev nD) : Nat :=
  let c0_i32_1738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1737 : BitVec 32 := 1#32
  let v1679 : BitVec 32 := Scalar.muli v7 c1_i32_1737
  let v1680 : BitVec 32 := Scalar.addi c0_i32_1738 v1679
  v1680.toNat
def k0_dev46 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1766 : BitVec 32 := 1#32
  let v1703 : BitVec 32 := Scalar.muli v5 c1_i32_1766
  let v1704 : BitVec 32 := Scalar.addi c0_i32_1767 v1703
  v1704.toNat
def k0_dev47 (d0 : Dev nD) : Nat :=
  let c0_i32_1819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1818 : BitVec 32 := 1#32
  let v1757 : BitVec 32 := Scalar.muli v7 c1_i32_1818
  let v1758 : BitVec 32 := Scalar.addi c0_i32_1819 v1757
  v1758.toNat
def k0_dev48 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1847 : BitVec 32 := 1#32
  let v1781 : BitVec 32 := Scalar.muli v5 c1_i32_1847
  let v1782 : BitVec 32 := Scalar.addi c0_i32_1848 v1781
  v1782.toNat
def k0_dev49 (d0 : Dev nD) : Nat :=
  let c0_i32_1900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1899 : BitVec 32 := 1#32
  let v1835 : BitVec 32 := Scalar.muli v7 c1_i32_1899
  let v1836 : BitVec 32 := Scalar.addi c0_i32_1900 v1835
  v1836.toNat
def k0_dev50 (d0 : Dev nD) : Nat :=
  let c0_i32_1929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1928 : BitVec 32 := 1#32
  let v1859 : BitVec 32 := Scalar.muli v5 c1_i32_1928
  let v1860 : BitVec 32 := Scalar.addi c0_i32_1929 v1859
  v1860.toNat
def k0_dev51 (d0 : Dev nD) : Nat :=
  let c0_i32_1981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1980 : BitVec 32 := 1#32
  let v1913 : BitVec 32 := Scalar.muli v7 c1_i32_1980
  let v1914 : BitVec 32 := Scalar.addi c0_i32_1981 v1913
  v1914.toNat
def k0_dev52 (d0 : Dev nD) : Nat :=
  let c0_i32_2010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2009 : BitVec 32 := 1#32
  let v1937 : BitVec 32 := Scalar.muli v5 c1_i32_2009
  let v1938 : BitVec 32 := Scalar.addi c0_i32_2010 v1937
  v1938.toNat
def k0_dev53 (d0 : Dev nD) : Nat :=
  let c0_i32_2062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2061 : BitVec 32 := 1#32
  let v1991 : BitVec 32 := Scalar.muli v7 c1_i32_2061
  let v1992 : BitVec 32 := Scalar.addi c0_i32_2062 v1991
  v1992.toNat
def k0_dev54 (d0 : Dev nD) : Nat :=
  let c0_i32_2091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2090 : BitVec 32 := 1#32
  let v2015 : BitVec 32 := Scalar.muli v5 c1_i32_2090
  let v2016 : BitVec 32 := Scalar.addi c0_i32_2091 v2015
  v2016.toNat
def k0_dev55 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2142 : BitVec 32 := 1#32
  let v2069 : BitVec 32 := Scalar.muli v7 c1_i32_2142
  let v2070 : BitVec 32 := Scalar.addi c0_i32_2143 v2069
  v2070.toNat
def k0_dev56 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2171 : BitVec 32 := 1#32
  let v2093 : BitVec 32 := Scalar.muli v5 c1_i32_2171
  let v2094 : BitVec 32 := Scalar.addi c0_i32_2172 v2093
  v2094.toNat
def k0_dev57 (d0 : Dev nD) : Nat :=
  let c0_i32_2224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2223 : BitVec 32 := 1#32
  let v2147 : BitVec 32 := Scalar.muli v7 c1_i32_2223
  let v2148 : BitVec 32 := Scalar.addi c0_i32_2224 v2147
  v2148.toNat
def k0_dev58 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2252 : BitVec 32 := 1#32
  let v2171 : BitVec 32 := Scalar.muli v5 c1_i32_2252
  let v2172 : BitVec 32 := Scalar.addi c0_i32_2253 v2171
  v2172.toNat
def k0_dev59 (d0 : Dev nD) : Nat :=
  let c0_i32_2305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2304 : BitVec 32 := 1#32
  let v2225 : BitVec 32 := Scalar.muli v7 c1_i32_2304
  let v2226 : BitVec 32 := Scalar.addi c0_i32_2305 v2225
  v2226.toNat
def k0_dev60 (d0 : Dev nD) : Nat :=
  let c0_i32_2334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2333 : BitVec 32 := 1#32
  let v2249 : BitVec 32 := Scalar.muli v5 c1_i32_2333
  let v2250 : BitVec 32 := Scalar.addi c0_i32_2334 v2249
  v2250.toNat
def k0_dev61 (d0 : Dev nD) : Nat :=
  let c0_i32_2386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2385 : BitVec 32 := 1#32
  let v2303 : BitVec 32 := Scalar.muli v7 c1_i32_2385
  let v2304 : BitVec 32 := Scalar.addi c0_i32_2386 v2303
  v2304.toNat
def k0_dev62 (d0 : Dev nD) : Nat :=
  let c0_i32_2415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2414 : BitVec 32 := 1#32
  let v2327 : BitVec 32 := Scalar.muli v5 c1_i32_2414
  let v2328 : BitVec 32 := Scalar.addi c0_i32_2415 v2327
  v2328.toNat
def k0_dev63 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2466 : BitVec 32 := 1#32
  let v2381 : BitVec 32 := Scalar.muli v7 c1_i32_2466
  let v2382 : BitVec 32 := Scalar.addi c0_i32_2467 v2381
  v2382.toNat
def k0_dev64 (d0 : Dev nD) : Nat :=
  let c0_i32_2496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2495 : BitVec 32 := 1#32
  let v2405 : BitVec 32 := Scalar.muli v5 c1_i32_2495
  let v2406 : BitVec 32 := Scalar.addi c0_i32_2496 v2405
  v2406.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Hop.lean ====
/-
  The kernel's body as a prologue, thirty-one equal hops and an epilogue.

  The printed body is one long straight line. Here it is written once per kind of step, with the two lanes (`false`: the upper half
  of a chunk, sent to the right; `true`: the lower half, sent to the left) and the hop's number as arguments, and `body_eq` says
  that the printed body is the chain of these steps.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-! ### The buffers, the slots and the semaphores -/

/-- The program's effects. -/
abbrev Eff (F : FTy → Type) [FloatOps F] := TpuEff nD τ sig (Elt F) Λ₀ .tc

/-- A number's parity, as the index of a slot. -/
abbrev sl (h : ℕ) : Fin 2 := ⟨h % 2, Nat.mod_lt _ (by decide)⟩

/-- The partial product's scratch buffer. -/
abbrev partM : Memref sig .tc .vmem S2048x2048 .f32 := Memref.whole cc0_scratch0
/-- The output block's staging buffer. -/
abbrev outM : Memref sig .tc .vmem S64x2048 .f32 := Memref.whole cc0_stg2_0

/-- A lane's pair of slots. -/
abbrev com : Bool → Memref sig .tc .vmem S2x32x2048 .bf16
  | false => Memref.whole cc0_scratch1
  | true => Memref.whole cc0_scratch2

theorem com_whole : ∀ z : Bool, (com z).IsWhole
  | false => Memref.isWhole_whole _
  | true => Memref.isWhole_whole _

/-- A lane's send semaphores and receive semaphores. -/
abbrev sendS : Bool → DmaSems sig S2
  | false => cc0_scratch3
  | true => cc0_scratch5
abbrev recvS : Bool → DmaSems sig S2
  | false => cc0_scratch4
  | true => cc0_scratch6

theorem inb_slot : ∀ i : Fin 2, ∀ a, (![i.val, 0, 0] : Fin 3 → Nat) a + S1x32x2048.size a ≤ S2x32x2048.size a := by decide
theorem inb_sem : ∀ i : Fin 2, ∀ a, (![i.val] : Fin 1 → Nat) a + S1.size a ≤ S2.size a := by decide

/-- The rectangle of slot `i` in a lane's buffer. -/
abbrev slotR (i : Fin 2) : Rect S2x32x2048 := Rect.unit (s := S2x32x2048) ![i.val, 0, 0] S1x32x2048.size (inb_slot i)

theorem words_slot : ∀ i : Fin 2, (slotR i).WholeWords (EltTy.packing .bf16)
  | 0 => wordsbf16_S2x32x2048_S1x32x2048_0_0_0
  | 1 => wordsbf16_S2x32x2048_S1x32x2048_1_0_0

theorem packed_slot : ∀ i : Fin 2, (slotR i).PackedRows (EltTy.packing .bf16)
  | 0 => packedbf16_S2x32x2048_S1x32x2048_0_0_0
  | 1 => packedbf16_S2x32x2048_S1x32x2048_1_0_0

/-- Slot `i` of a lane, as the copies name it. -/
abbrev slot (z : Bool) (i : Fin 2) : Memref sig .tc .vmem S32x2048 .bf16 :=
  ((com z).slice (slotR i) (fun _ => rfl)).squeeze S32x2048 squeezes_S1x32x2048_S32x2048

theorem slot_words (z : Bool) (i : Fin 2) : (slot z i).view.WordExact :=
  ((com_whole z).wordExact_slice rfl _ (words_slot i)).reshape _ _

/-- Semaphore `i` of a pair. -/
abbrev semAt (a : DmaSems sig S2) (i : Fin 2) : DmaSem sig :=
  ((a.slice (Rect.unit (s := S2) ![i.val] S1.size (inb_sem i))).squeeze S_ squeezes_S1_S_).sem

/-- The barrier semaphore. -/
abbrev barS : Sem sig := (SemArray.scalar (sig.barrier 0 rfl) : Sems sig S_).sem

/-! ### The steps -/

/-- The device a lane sends to. -/
abbrev toDev : Bool → Dev nD → Dev nD
  | false, d => ⟨k0_dev3 d, k0_dev3_lt d⟩
  | true, d => ⟨k0_dev4 d, k0_dev4_lt d⟩

/-- One lane's transfer in hop `h`: start the copy, wait until it has been sent, wait until the neighbour's has come. -/
abbrev xfer (z : Bool) (h : ℕ) (n : Dev nD) : Prog (Eff F) PUnit := do
  Prog.lift (.enqueueDma (slot z (sl h)) (.remote (Dev.tc n) (slot z (sl (h + 1))) (.dma (semAt (sendS z) (sl h))))
    (.dma (semAt (recvS z) (sl (h + 1)))) (slot_words z (sl h)) (slot_words z (sl (h + 1))) ⟨⟨rfl, Or.inl rfl⟩, trivial⟩)
  Prog.lift (.waitDma2 (semAt (sendS z) (sl h)) (slot z (sl (h + 1))) (slot z (sl h)) (slot_words z (sl (h + 1))) (slot_words z (sl h)))
  Prog.lift (.waitDma2 (semAt (recvS z) (sl (h + 1))) (slot z (sl h)) (slot z (sl (h + 1))) (slot_words z (sl h)) (slot_words z (sl (h + 1))))

/-- The rows of the partial product a lane adds in hop `h`. -/
abbrev addOff : Bool → Dev nD → ℕ → Fin 2 → ℕ
  | false, d, h => k0_off3 d (BitVec.ofNat 32 h)
  | true, d, h => k0_off4 d (BitVec.ofNat 32 h)

theorem addOff_inb : ∀ (z : Bool) (d : Dev nD) (h : ℕ) (_ : h < 31), ∀ a, addOff z d h a + S32x2048.size a ≤ S2048x2048.size a
  | false, d, h, hh => k0_off3_inb d ⟨h, hh⟩
  | true, d, h, hh => k0_off4_inb d ⟨h, hh⟩

/-- The rows of the partial product a lane sends first. -/
abbrev initOff : Bool → Dev nD → Fin 2 → ℕ
  | false, d => k0_off1 d
  | true, d => k0_off2 d

theorem initOff_inb : ∀ (z : Bool) (d : Dev nD), ∀ a, initOff z d a + S32x2048.size a ≤ S2048x2048.size a
  | false, d => k0_off1_inb d
  | true, d => k0_off2_inb d

/-- Load a lane's slot. -/
abbrev ldSlot (z : Bool) (i : Fin 2) : Prog (Eff F) (Vec F S1x32x2048 .bf16) :=
  Prog.lift (.load (com z) (slotR i).toLoadRect (View.loadsAt_vmem h_S1x32x2048))

/-- Store a lane's slot whole. -/
abbrev stSlot (z : Bool) (i : Fin 2) (v : FVec F S1x32x2048 .bf16) : Prog (Eff F) PUnit :=
  Prog.lift (.store (com z) (slotR i) v Finset.univ
    (View.stores_vmem h_S1x32x2048 ((com_whole z).storeExact_slice rfl _ (packed_slot i)) (fun _ => rfl)) (.inl rfl))

/-- Load thirty-two rows of the partial product. -/
abbrev ldPart (off : Fin 2 → ℕ) (ho : ∀ a, off a + S32x2048.size a ≤ S2048x2048.size a) : Prog (Eff F) (Vec F S32x2048 .f32) :=
  Prog.lift (.load partM (Rect.unit (s := S2048x2048) off S32x2048.size ho).toLoadRect (View.loadsAt_vmem h_S32x2048))

/-- Add the partial product's rows to what has come. -/
abbrev upd (z : Bool) (h : ℕ) (off : Fin 2 → ℕ) (ho : ∀ a, off a + S32x2048.size a ≤ S2048x2048.size a) : Prog (Eff F) PUnit := do
  let v ← ldSlot z (sl (h + 1))
  let p ← ldPart off ho
  let _ ← ldSlot z (sl (h + 1))
  stSlot z (sl (h + 1)) (k0_pay5 v p)

/-- A hop but the last. -/
abbrev hop (d : Dev nD) (h : ℕ) (hh : h < 31) : Prog (Eff F) PUnit := do
  xfer false h (toDev false d)
  xfer true h (toDev true d)
  upd false h (addOff false d h) (addOff_inb false d h hh)
  upd true h (addOff true d h) (addOff_inb true d h hh)

theorem inb_out : ∀ i : Fin 2, ∀ a, (![32 * i.val, 0] : Fin 2 → Nat) a + S32x2048.size a ≤ S64x2048.size a := by decide

/-- Half `i` of the output block: loaded (the value is not read), then stored. -/
abbrev putOut (i : Fin 2) (v : FVec F S32x2048 .f32) : Prog (Eff F) PUnit := do
  let _ ← (Prog.lift (.load outM (Rect.unit (s := S64x2048) ![32 * i.val, 0] S32x2048.size (inb_out i)).toLoadRect (View.loadsAt_vmem h_S32x2048)) : Prog (Eff F) (Vec F S32x2048 .f32))
  Prog.lift (.store outM (Rect.unit (s := S64x2048) ![32 * i.val, 0] S32x2048.size (inb_out i)) v Finset.univ
    (View.stores_vmem_bits_univ h_S32x2048 rfl) (.inl rfl))

/-- The last hop: both transfers, the two sums in f32, the activation, the output block. -/
abbrev lastHop (d : Dev nD) : Prog (Eff F) PUnit := do
  xfer false 30 (toDev false d)
  xfer true 30 (toDev true d)
  let va ← ldSlot false (sl 31)
  let pa ← ldPart (addOff false d 30) (addOff_inb false d 30 (by decide))
  let vb ← ldSlot true (sl 31)
  let pb ← ldPart (addOff true d 30) (addOff_inb true d 30 (by decide))
  putOut 0 (k0_pay84 va pa)
  putOut 1 (k0_pay1 (k0_pay83 vb pb))
  pure ⟨⟩

/-- The hops from `h` on, `n` of them before the last. -/
def hops (d : Dev nD) : (n h : ℕ) → h + n = 30 → Prog (Eff F) PUnit
  | 0, _, _ => lastHop d
  | n + 1, h, hn => do
    hop d h (by omega)
    hops d n (h + 1) (by omega)

/-- The two signals and the wait, the partial product, the two first messages. -/
abbrev prologue : Prog (Eff F) (Dev nD) := do
  let d ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  let x : Vec F S2048x64 .bf16 ← Prog.lift (.load (Memref.whole cc0_stg0_0) (Rect.unit (s := S2048x64) ![0, 0] S2048x64.size inb_S2048x64_S2048x64_0_0).toLoadRect (View.loadsAt_vmem h_S2048x64))
  let w : Vec F S64x2048 .bf16 ← Prog.lift (.load (Memref.whole cc0_stg1_0) (Rect.unit (s := S64x2048) ![0, 0] S64x2048.size inb_S64x2048_S64x2048_0_0).toLoadRect (View.loadsAt_vmem h_S64x2048))
  let _ ← (Prog.lift (.load partM (Rect.unit (s := S2048x2048) ![0, 0] S2048x2048.size inb_S2048x2048_S2048x2048_0_0).toLoadRect (View.loadsAt_vmem h_S2048x2048)) : Prog (Eff F) (Vec F S2048x2048 .f32))
  Prog.lift (.store partM (Rect.unit (s := S2048x2048) ![0, 0] S2048x2048.size inb_S2048x2048_S2048x2048_0_0) (k0_pay2 x w) Finset.univ (View.stores_vmem_bits_univ h_S2048x2048 rfl) (.inl rfl))
  let pa ← ldPart (initOff false d) (initOff_inb false d)
  let _ ← ldSlot false 0
  stSlot false 0 (k0_pay3 pa)
  let pb ← ldPart (initOff true d) (initOff_inb true d)
  let _ ← ldSlot true 0
  stSlot true 0 (k0_pay3 pb)
  pure d

/-- The body, as its steps. -/
def steps : Prog (Eff F) PUnit := do
  let d ← prologue
  hops d 30 0 rfl

/-- The printed body is the chain of its steps. -/
theorem body_eq : bodyAt0 (F := F) t0_0 = steps := by
  chain_rfl

end Cert.Proof

end
-- ==== Proof.Ring.lean ====
/-
  The protocol of the ring.

  Each device owns two lanes of two slots. In hop `h` a device copies slot `h % 2` of a lane into slot `(h + 1) % 2` of the neighbour the
  lane sends to. What makes the copies safe is who holds which slot when:

  * a message of the first lane (to the right), hop `h`, brings along the sender's slot of the second lane that the receiver's copy of the same hop goes to;
  * a message of the second lane (to the left), hop `h`, brings along the sender's slot of the first lane that the receiver's next copy goes to;
  * the first copy of the first lane goes to a slot handed over with the right neighbour's barrier signal.

  So a device hands a slot over only after the copy out of that slot has been waited for.
-/
module

public import proofs.«01_k».proof.Proof.Hop
public import Idealize.ShloMosaic.Lib.Pipeline.Launch
public import Idealize.ShloMosaic.Lib.Pipeline.Kit
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ### The resources -/

/-- The ring's rounds: a barrier cell has two duties in its only round. -/
abbrev RB : Type := URounds (GSem nD τ sig) Bool
/-- The pipeline's rounds beside the ring's. -/
abbrev RR : Type := UR sig nD τ × RB

local notation "𝕄" => MT nD τ sig ℕ (Elt F) ℕ RR ℕ

abbrev eP : Emb (UR sig nD τ) (MT nD τ sig ℕ (Elt F) ℕ RR ℕ) := embL
abbrev eR : Emb RB (MT nD τ sig ℕ (Elt F) ℕ RR ℕ) := embR

/-! ### The neighbours -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

/-- The neighbour a lane sends to, and the one it receives from. -/
def dst : Bool → Dev nD → Dev nD
  | false => nxt
  | true => prv
def org : Bool → Dev nD → Dev nD
  | false => prv
  | true => nxt

theorem org_dst : ∀ (z : Bool) (c : Dev nD), org z (dst z c) = c
  | false, c => prv_nxt c
  | true, c => nxt_prv c
theorem dst_org : ∀ (z : Bool) (c : Dev nD), dst z (org z c) = c
  | false, c => nxt_prv c
  | true, c => prv_nxt c

/-- One step along a lane, as a permutation of the devices. -/
def along (z : Bool) : Dev nD ≃ Dev nD := ⟨dst z, org z, org_dst z, dst_org z⟩

theorem toDev_eq : ∀ (z : Bool) (c : Dev nD), toDev z c = dst z c
  | false, c => Fin.ext (k0_dev3_eq c)
  | true, c => Fin.ext (k0_dev4_eq c)
theorem sigDev1_eq (c : Dev nD) : (⟨k0_dev1 c, k0_dev1_lt c⟩ : Dev nD) = prv c := Fin.ext (k0_dev1_eq c)
theorem sigDev2_eq (c : Dev nD) : (⟨k0_dev2 c, k0_dev2_lt c⟩ : Dev nD) = nxt c := Fin.ext (k0_dev2_eq c)

theorem sl_add_two (h : ℕ) : sl (h + 2) = sl h := Fin.ext (by show (h + 2) % 2 = h % 2; omega)

/-! ### The cells -/

abbrev bCell (c : Dev nD) : GSem nD τ sig := ((c : Thread nD τ), .reg barS)
abbrev sCell (z : Bool) (c : Dev nD) (i : Fin 2) : GSem nD τ sig := ((c : Thread nD τ), .dma (semAt (sendS z) i))
abbrev rCell (z : Bool) (c : Dev nD) (i : Fin 2) : GSem nD τ sig := ((c : Thread nD τ), .dma (semAt (recvS z) i))

/-- Which lane's semaphore a transfer semaphore is, whether it counts arrivals, and of which slot. -/
def role (q : DmaSem sig) : Option (Bool × Bool × Fin 2) :=
  if q.val = 3 then some (false, false, 0) else if q.val = 4 then some (false, false, 1)
  else if q.val = 5 then some (false, true, 0) else if q.val = 6 then some (false, true, 1)
  else if q.val = 7 then some (true, false, 0) else if q.val = 8 then some (true, false, 1)
  else if q.val = 9 then some (true, true, 0) else if q.val = 10 then some (true, true, 1)
  else none

theorem role_send : ∀ (z : Bool) (i : Fin 2), role (semAt (sendS z) i) = some (z, false, i) := by decide
theorem role_recv : ∀ (z : Bool) (i : Fin 2), role (semAt (recvS z) i) = some (z, true, i) := by decide

/-- The units one copy of a slot counts. -/
abbrev nU : ℕ := (slot false 0).view.dmaCredit
theorem nU_pos : 0 < nU := View.dmaCredit_pos _ (by decide)

/-- The hop of round `r` of slot `i`'s semaphore: the slots of the sends alternate from 0, those of the arrivals from 1. -/
def hopOf (rv : Bool) (i : Fin 2) (r : ℕ) : ℕ := 2 * r + (if rv then 1 - i.val else i.val)

theorem hopOf_send (h : ℕ) : hopOf false (sl h) (h / 2) = h := by
  show 2 * (h / 2) + h % 2 = h; omega
theorem hopOf_recv (h : ℕ) : hopOf true (sl (h + 1)) (h / 2) = h := by
  show 2 * (h / 2) + (1 - (h + 1) % 2) = h; omega

/-! ### What travels -/

/-- The contents of a device's partial product, and of one slot. -/
abbrev Part (F : FTy → Type) := (cc0_scratch0 : Ref sig .tc).ty.Contents (Elt F)
abbrev Msg (F : FTy → Type) := FVec F S1x32x2048 .bf16

/-- Thirty-two rows of a partial product. -/
abbrev rowsOf (p : Part F) (off : Fin 2 → ℕ) (ho : ∀ a, off a + S32x2048.size a ≤ S2048x2048.size a) : Vec F S32x2048 .f32 :=
  (partM.access (Rect.unit (s := S2048x2048) off S32x2048.size ho)).read (Elt F) p

/-- The rows a device adds in hop `h` (any rows past the last hop). -/
def addRows (p : Part F) (z : Bool) (c : Dev nD) (h : ℕ) : Vec F S32x2048 .f32 :=
  if hh : h < 31 then rowsOf p (addOff z c h) (addOff_inb z c h hh) else rowsOf p (initOff z c) (initOff_inb z c)

theorem addRows_eq (p : Part F) (z : Bool) (c : Dev nD) (h : ℕ) (hh : h < 31) :
    rowsOf p (addOff z c h) (addOff_inb z c h hh) = addRows p z c h := by unfold addRows; rw [dif_pos hh]

/-- What device `c` sends in hop `h` along lane `z`, `P d` being device `d`'s partial product: first its own rows, then what came
    in the hop before with its own rows added. -/
def msg (P : Dev nD → Part F) (z : Bool) : ℕ → Dev nD → Msg F
  | 0, c => k0_pay3 (rowsOf (P c) (initOff z c) (initOff_inb z c))
  | h + 1, c => k0_pay5 (msg P z h (org z c)) (addRows (P c) z c h)

/-- Device `c` holds slot `i` of lane `z`, reading `X`. -/
def hold (z : Bool) (i : Fin 2) (c : Dev nD) (X : Msg F) : sProp 𝕄 :=
  iprop(∃ f : Buf (Elt F) ((com z).view.loc (c : Thread nD τ)), ⌜((com z).access (slotR i)).read (Elt F) f = X⌝
    ∗ ((com z).view.loc (c : Thread nD τ) ↦[((com z).access (slotR i)).set]{fullShare} f))

/-- It holds the slot at some contents. -/
def free (z : Bool) (i : Fin 2) (c : Dev nD) : sProp 𝕄 := iprop(∃ X : Msg F, hold z i c X)

omit [FloatOps F] in
instance hold_storable (z : Bool) (i : Fin 2) (c : Dev nD) (X : Msg F) : BI.Storable (upEmb : UEmb _ 𝕄) (hold (F := F) z i c X) := by
  unfold hold; infer_instance
omit [FloatOps F] in
instance free_storable (z : Bool) (i : Fin 2) (c : Dev nD) : BI.Storable (upEmb : UEmb _ 𝕄) (free (F := F) z i c) := by
  unfold free; infer_instance

/-- What device `c` needs to start its copy of hop `h`: the slot it goes to, and that the receiver's semaphore is at that round. -/
def need (z : Bool) (h : ℕ) (c : Dev nD) : sProp 𝕄 :=
  iprop(free (F := F) z (sl (h + 1)) (dst z c) ∗ reached eR (rCell z (dst z c) (sl (h + 1))) (h / 2))

omit [FloatOps F] in
instance need_storable (z : Bool) (h : ℕ) (c : Dev nD) : BI.Storable (upEmb : UEmb _ 𝕄) (need (F := F) z h c) := by
  unfold need; infer_instance

/-- What a message to `c` brings along. -/
def extra : Bool → ℕ → Dev nD → sProp 𝕄
  | false, h, c => need (F := F) true h c
  | true, h, c => if h < 30 then need (F := F) false (h + 1) c else iprop(emp)

omit [FloatOps F] in
instance extra_storable (z : Bool) (h : ℕ) (c : Dev nD) : BI.Storable (upEmb : UEmb _ 𝕄) (extra (F := F) z h c) := by
  cases z
  · show BI.Storable upEmb (need (F := F) true h c); infer_instance
  · show BI.Storable upEmb (if h < 30 then need (F := F) false (h + 1) c else iprop(emp))
    split <;> infer_instance

variable (P : Dev nD → Part F)

/-- What an arrival hands its receiver: the slot with the message, and what the message brings along. -/
def come (z : Bool) (h : ℕ) (c : Dev nD) : sProp 𝕄 :=
  iprop(hold z (sl (h + 1)) c (msg P z h (org z c)) ∗ extra (F := F) z h c)

instance come_storable (z : Bool) (h : ℕ) (c : Dev nD) : BI.Storable (upEmb : UEmb _ 𝕄) (come P z h c) := by
  unfold come; infer_instance

/-! ### The schedule -/

/-- The duties: two for the barrier (`true`: from the right neighbour, with the slot of the first copy; `false`: from the left one), and one
    for each of the thirty-one hops at the semaphores the hop uses. -/
def sched : Rounds.Schedule (GSem nD τ sig) Bool 𝕄 where
  duties g r := if g.1.2 = .tc then
      (match g.2 with
        | .reg s => if s = barS ∧ r = 0 then Finset.univ else ∅
        | .dma q => match role q with
          | some (_, rv, i) => if hopOf rv i r < 31 then {false} else ∅
          | none => ∅)
    else ∅
  unitless _ := False
  amount g _ _ := match g.2 with
    | .reg _ => 1
    | .dma _ => nU
  payload g r d := match g.2 with
    | .reg _ => if d then need (F := F) false 0 g.1.1 else iprop(emp)
    | .dma q => match role q with
      | some (z, false, i) => free (F := F) z i g.1.1
      | some (z, true, i) => come P z (hopOf true i r) g.1.1
      | none => iprop(emp)
  amount_pos g _ _ _ := by
    cases g.2
    · exact Nat.one_pos
    · exact nU_pos

instance sched_storable (g : GSem nD τ sig) (r : ℕ) (d : Bool) : BI.Storable (upEmb : UEmb _ 𝕄) ((sched P).payload g r d) := by
  obtain ⟨t, s | q⟩ := g
  · show BI.Storable upEmb (if d then need (F := F) false 0 t.1 else iprop(emp))
    split <;> infer_instance
  · show BI.Storable upEmb (match role q with
      | some (z, false, i) => free (F := F) z i t.1
      | some (z, true, i) => come P z (hopOf true i r) t.1
      | none => iprop(emp))
    split <;> infer_instance

section Cells
variable (z : Bool) (h : ℕ) (c : Dev nD)

theorem duties_b : (sched P).duties (bCell c) 0 = Finset.univ := rfl
theorem duties_b_later (r : ℕ) (hr : 1 ≤ r) : (sched P).duties (bCell c) r = ∅ :=
  if_neg fun h => by have := h.2; omega
theorem duties_s (i : Fin 2) (r : ℕ) : (sched P).duties (sCell z c i) r = if hopOf false i r < 31 then {false} else ∅ := by
  show (match role (semAt (sendS z) i) with
    | some (_, rv, i) => if hopOf rv i r < 31 then ({false} : Finset Bool) else ∅
    | none => ∅) = _
  rw [role_send]
theorem duties_r (i : Fin 2) (r : ℕ) : (sched P).duties (rCell z c i) r = if hopOf true i r < 31 then {false} else ∅ := by
  show (match role (semAt (recvS z) i) with
    | some (_, rv, i) => if hopOf rv i r < 31 then ({false} : Finset Bool) else ∅
    | none => ∅) = _
  rw [role_recv]
theorem payload_b_true : (sched P).payload (bCell c) 0 true = need (F := F) false 0 c := rfl
theorem payload_b_false : (sched P).payload (bCell c) 0 false = iprop(emp) := rfl
theorem payload_s (i : Fin 2) (r : ℕ) (d : Bool) : (sched P).payload (sCell z c i) r d = free (F := F) z i c := by
  show (match role (semAt (sendS z) i) with
      | some (z, false, i) => free (F := F) z i c
      | some (z, true, i) => come P z (hopOf true i r) c
      | none => iprop(emp)) = _
  rw [role_send]
theorem payload_r (i : Fin 2) (r : ℕ) (d : Bool) : (sched P).payload (rCell z c i) r d = come P z (hopOf true i r) c := by
  show (match role (semAt (recvS z) i) with
      | some (z, false, i) => free (F := F) z i c
      | some (z, true, i) => come P z (hopOf true i r) c
      | none => iprop(emp)) = _
  rw [role_recv]

variable (hh : h < 31)
include hh

theorem hop_duties_s : (sched P).duties (sCell z c (sl h)) (h / 2) = {false} := by
  rw [duties_s, hopOf_send, if_pos hh]
theorem hop_duties_r : (sched P).duties (rCell z c (sl (h + 1))) (h / 2) = {false} := by
  rw [duties_r, hopOf_recv, if_pos hh]
theorem hop_expect_s : (sched P).expect (sCell z c (sl h)) (h / 2) = nU := by
  unfold Schedule.expect Schedule.amountOf; rw [hop_duties_s P z h c hh, Finset.sum_singleton]; rfl
theorem hop_expect_r : (sched P).expect (rCell z c (sl (h + 1))) (h / 2) = nU := by
  unfold Schedule.expect Schedule.amountOf; rw [hop_duties_r P z h c hh, Finset.sum_singleton]; rfl
theorem hop_rest_s : bigSep ((sched P).duties (sCell z c (sl h)) (h / 2) \ ∅) (fun d => (sched P).payload (sCell z c (sl h)) (h / 2) d)
    = free (F := F) z (sl h) c := by
  rw [Finset.sdiff_empty, hop_duties_s P z h c hh, bigSep_singleton, payload_s]
theorem hop_rest_r : bigSep ((sched P).duties (rCell z c (sl (h + 1))) (h / 2) \ ∅) (fun d => (sched P).payload (rCell z c (sl (h + 1))) (h / 2) d)
    = come P z h c := by
  rw [Finset.sdiff_empty, hop_duties_r P z h c hh, bigSep_singleton, payload_r, hopOf_recv]
end Cells

theorem expect_b (c : Dev nD) : (sched P).expect (bCell c) 0 = 2 := by
  unfold Schedule.expect Schedule.amountOf; rw [duties_b]; rfl
theorem rest_b (c : Dev nD) : bigSep ((sched P).duties (bCell c) 0 \ ∅) (fun d => (sched P).payload (bCell c) 0 d)
    = iprop(emp ∗ need (F := F) false 0 c) := by
  rw [Finset.sdiff_empty, duties_b, bigSep_univ_eq_bigSepL [false, true] (by decide) (by decide), bigSepL_cons_cons, bigSepL_singleton,
    payload_b_false, payload_b_true]
  rfl

/-- A transfer semaphore has no duty after hop 30. -/
theorem duties_s_end (z : Bool) (c : Dev nD) (i : Fin 2) (R : ℕ) (hR : 31 ≤ hopOf false i R) (r : ℕ) (hr : R ≤ r) : (sched P).duties (sCell z c i) r = ∅ := by
  rw [duties_s, if_neg]; unfold hopOf at *; omega
theorem duties_r_end (z : Bool) (c : Dev nD) (i : Fin 2) (R : ℕ) (hR : 31 ≤ hopOf true i R) (r : ℕ) (hr : R ≤ r) : (sched P).duties (rCell z c i) r = ∅ := by
  rw [duties_r, if_neg]; unfold hopOf at *; omega

/-! ### What is owed, and the levels -/

/-- The arrival device `c` owes its neighbour in hop `h`, counted under the hop's number. -/
def due (z : Bool) (h : ℕ) (c : Dev nD) : CellTallies nD τ sig ℕ := tallyAt (rCell z (dst z c) (sl (h + 1))) h nU

theorem Ico_head {h : ℕ} (hh : h < 31) : Finset.Ico h 31 = insert h (Finset.Ico (h + 1) 31) := by
  ext k; rw [Finset.mem_insert, Finset.mem_Ico, Finset.mem_Ico]; omega

/-- The arrivals owed from hop `h` on. -/
def owed (h : ℕ) (c : Dev nD) : CellTallies nD τ sig ℕ := ∑ k ∈ Finset.Ico h 31, (due true k c + due false k c)

theorem owed_step (h : ℕ) (c : Dev nD) (hh : h < 31) : owed h c = (owed (h + 1) c + due true h c) + due false h c := by
  unfold owed; rw [Ico_head hh, Finset.sum_insert (by rw [Finset.mem_Ico]; omega), add_comm, add_assoc]
theorem owed_end (c : Dev nD) : owed 31 c = 0 := by unfold owed; rw [Finset.Ico_self, Finset.sum_empty]

/-- What is owed at launch: the arrivals and the two signals, the first one last. -/
def owed₀ (c : Dev nD) : CellTallies nD τ sig ℕ := (owed 0 c + tallyAt (bCell (nxt c)) 0 1) + tallyAt (bCell (prv c)) 0 1

def L (g : GSem nD τ sig) : Finset ℕ := if g.1.2 = .tc then Finset.range 31 else ∅
/-- Barrier cells at 1; the arrivals of hop `h` at `2 + 2 h` (first lane) and `3 + 2 h` (second lane); everything else at 0. -/
def lv (g : GSem nD τ sig) (h : ℕ) : ℕ := match g.2 with
  | .reg _ => 1
  | .dma q => match role q with
    | some (false, true, _) => 2 + 2 * h
    | some (true, true, _) => 3 + 2 * h
    | _ => 0

def base : Bool → ℕ
  | false => 2
  | true => 3

theorem lv_r (z : Bool) (c : Dev nD) (i : Fin 2) (h : ℕ) : lv (rCell z c i) h = base z + 2 * h := by
  unfold lv; show (match role (semAt (recvS z) i) with
    | some (false, true, _) => 2 + 2 * h
    | some (true, true, _) => 3 + 2 * h
    | _ => 0) = _
  rw [role_recv]; cases z <;> rfl
theorem lv_s (z : Bool) (c : Dev nD) (i : Fin 2) (h : ℕ) : lv (sCell z c i) h = 0 := by
  unfold lv; show (match role (semAt (sendS z) i) with
    | some (false, true, _) => 2 + 2 * h
    | some (true, true, _) => 3 + 2 * h
    | _ => 0) = _
  rw [role_send]; cases z <;> rfl

theorem L_of_ne (g : GSem nD τ sig) (h : g.1.2 ≠ .tc) : L g = ∅ := if_neg h
theorem mem_L (c : Dev nD) (sm : SemLoc sig) {h : ℕ} (hh : h < 31) : h ∈ L ((c : Thread nD τ), sm) := by
  unfold L; rw [if_pos rfl]; exact Finset.mem_range.mpr hh

/-- Everything owed is above level `b`. -/
def Above (b : ℕ) (O : CellTallies nD τ sig ℕ) : Prop := ∀ g i, 0 < O g i → i ∈ L g ∧ b < lv g i

theorem Above.add {b : ℕ} {O O' : CellTallies nD τ sig ℕ} (h : Above b O) (h' : Above b O') : Above b (O + O') := fun g i hg => by
  rcases Pipeline.add_pos_cases hg with hg | hg
  · exact h g i hg
  · exact h' g i hg
theorem Above.mono {a b : ℕ} {O : CellTallies nD τ sig ℕ} (hab : a ≤ b) (h : Above b O) : Above a O :=
  fun g i hg => ⟨(h g i hg).1, hab.trans_lt (h g i hg).2⟩
theorem above_zero (b : ℕ) : Above b 0 := fun _ _ h => absurd h (Nat.lt_irrefl 0)
theorem above_due {b : ℕ} (z : Bool) (h : ℕ) (c : Dev nD) (hh : h < 31) (hb : b < base z + 2 * h) : Above b (due z h c) := fun g i hg => by
  unfold due at hg
  obtain ⟨rfl, rfl⟩ := Pipeline.tallyAt_pos hg
  exact ⟨mem_L _ _ hh, by rw [lv_r]; exact hb⟩
theorem above_bar (d : Dev nD) : Above 0 (tallyAt (bCell d) 0 1) := fun g i hg => by
  obtain ⟨rfl, rfl⟩ := Pipeline.tallyAt_pos hg
  exact ⟨mem_L _ _ (by decide), Nat.one_pos⟩
theorem above_owed {b : ℕ} (h : ℕ) (c : Dev nD) (hb : b < 2 + 2 * h) : Above b (owed h c) := fun g i hg => by
  unfold owed at hg
  obtain ⟨k, hk, hg⟩ := Pipeline.sum_pos_exists hg
  rw [Finset.mem_Ico] at hk
  exact ((above_due true k c hk.2 (by show b < 3 + 2 * k; omega)).add (above_due false k c hk.2 (by show b < 2 + 2 * k; omega))) g i hg
theorem above_owed₀ (c : Dev nD) : Above 0 (owed₀ c) := ((above_owed 0 c (by decide)).add (above_bar _)).add (above_bar _)

/-- A wait at or below level `b` while everything owed is above it. -/
theorem mayWait {b : ℕ} (c : Dev nD) (sm : SemLoc sig) (h : ℕ) (O : CellTallies nD τ sig ℕ) (hO : Above b O) (hh : h < 31)
    (hb : lv ((c : Thread nD τ), sm) h ≤ b) : (levAts L lv : sProp 𝕄) ⊢ MayWait (c : Thread nD τ) sm h O :=
  MayOwe.of_cut (L := L) (lev := lv) b (fun p hp => by rw [Finset.mem_singleton.mp hp]; exact mem_L c sm hh) (fun g i hg => (hO g i hg).1)
    (fun p hp => by rw [Finset.mem_singleton.mp hp]; exact hb) (fun g i hg => (hO g i hg).2)

/-! ### Positions, tokens, records -/

/-- The owner is at round `r` of its cell, nothing of it received. -/
def at0 (g : GSem nD τ sig) (r : ℕ) : sProp 𝕄 := iprop(atPos eR g r ∅ 0 ∗ reached eR g r)

/-- A device's position on a lane's four semaphores before hop `h`. -/
def pos (z : Bool) (h : ℕ) (c : Dev nD) : sProp 𝕄 :=
  iprop(at0 (F := F) (sCell z c (sl h)) (h / 2) ∗ at0 (F := F) (rCell z c (sl (h + 1))) (h / 2)
    ∗ at0 (F := F) (sCell z c (sl (h + 1))) ((h + 1) / 2) ∗ at0 (F := F) (rCell z c (sl h)) ((h + 1) / 2))

/-- A device's tokens for its copy of hop `h`, and the credit for the neighbour's. -/
def toks (z : Bool) (h : ℕ) (c : Dev nD) : sProp 𝕄 :=
  iprop(dutyTok eR (sCell z c (sl h)) (h / 2) false ∗ dutyTok eR (rCell z (dst z c) (sl (h + 1))) (h / 2) false
    ∗ cred (tallyAt (rCell z c (sl (h + 1))) h nU))

def toksFrom (h : ℕ) (c : Dev nD) : sProp 𝕄 := bigSep (Finset.Ico h 31) fun k => iprop(toks (F := F) false k c ∗ toks (F := F) true k c)

omit [FloatOps F] in
theorem toksFrom_step (h : ℕ) (c : Dev nD) (hh : h < 31) :
    (toksFrom h c : sProp 𝕄) = iprop((toks false h c ∗ toks true h c) ∗ toksFrom (h + 1) c) := by
  unfold toksFrom
  rw [Ico_head hh,
    bigSep_insert (by rw [Finset.mem_Ico]; omega)]
  rfl

/-- The semaphores of the protocol, on one device and on all. -/
abbrev csem : Fin 9 → SemLoc sig
  | 0 => .reg barS
  | 1 => .dma (semAt (sendS false) 0) | 2 => .dma (semAt (sendS false) 1)
  | 3 => .dma (semAt (recvS false) 0) | 4 => .dma (semAt (recvS false) 1)
  | 5 => .dma (semAt (sendS true) 0) | 6 => .dma (semAt (sendS true) 1)
  | 7 => .dma (semAt (recvS true) 0) | 8 => .dma (semAt (recvS true) 1)
abbrev kcell (x : Dev nD × Fin 9) : GSem nD τ sig := ((x.1 : Thread nD τ), csem x.2)

/-- Every cell's invariant, under the names `K`. -/
def invs (K : Dev nD × Fin 9 → ℕ) : sProp 𝕄 := bigSep Finset.univ fun x => cellInv eR (sched P) (K x) (kcell x)

instance invs_persistent (K : Dev nD × Fin 9 → ℕ) : BI.Persistent (invs P K) := by unfold invs; infer_instance

theorem inv_of (K : Dev nD × Fin 9 → ℕ) (x : Dev nD × Fin 9) : invs P K ⊢ cellInv eR (sched P) (K x) (kcell x) := bigSep_elim (Finset.mem_univ x)

/-- Where a transfer semaphore stands among them. -/
def sIx (z : Bool) (i : Fin 2) : Fin 9 := match z, i with
  | false, 0 => 1 | false, 1 => 2 | true, 0 => 5 | true, 1 => 6
def rIx (z : Bool) (i : Fin 2) : Fin 9 := match z, i with
  | false, 0 => 3 | false, 1 => 4 | true, 0 => 7 | true, 1 => 8

theorem csem_s : ∀ (z : Bool) (i : Fin 2), csem (sIx z i) = .dma (semAt (sendS z) i) := by decide
theorem csem_r : ∀ (z : Bool) (i : Fin 2), csem (rIx z i) = .dma (semAt (recvS z) i) := by decide

theorem inv_s (K : Dev nD × Fin 9 → ℕ) (z : Bool) (c : Dev nD) (i : Fin 2) : invs P K ⊢ cellInv eR (sched P) (K (c, sIx z i)) (sCell z c i) := by
  have h := inv_of P K (c, sIx z i); unfold kcell at h; rwa [csem_s] at h
theorem inv_r (K : Dev nD × Fin 9 → ℕ) (z : Bool) (c : Dev nD) (i : Fin 2) : invs P K ⊢ cellInv eR (sched P) (K (c, rIx z i)) (rCell z c i) := by
  have h := inv_of P K (c, rIx z i); unfold kcell at h; rwa [csem_r] at h

end Cert.Proof

end
-- ==== Proof.Transfer.lean ====
/-
  One transfer and one addition of the ring, as rules of the logic.
-/
module

public import proofs.«01_k».proof.Proof.Ring

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ RR ℕ

/-- The weakest precondition of a program of device `c`. -/
abbrev wpc (c : Dev nD) {α : Type} (p : Prog (Eff F) α) (Q : α → sProp 𝕄) : sProp 𝕄 :=
  wp frame (wpE (defs₀ (F := F)) Variants.none (c : Thread nD τ) none) Set.univ p Q

omit [FloatOps F] in
theorem slot_set (z : Bool) (i : Fin 2) : (slot z i).view.set = ((com z).access (slotR i)).set := View.set_reshape _ _

omit [FloatOps F] in
/-- What a copied slot reads. -/
theorem landed (z : Bool) (i j : Fin 2) (fd fs : (com z).view.ty.Contents (Elt F)) :
    ((com z).access (slotR j)).read (Elt F) ((slot z j).view.write (Elt F) fd ((slot z i).view.read (Elt F) fs) Finset.univ)
      = ((com z).access (slotR i)).read (Elt F) fs := by
  refine (congrArg (((com z).access (slotR j)).read (Elt F)) (View.write_reshape_univ ((com z).access (slotR j)) _ fd _)).trans ?_
  rw [View.read_write_univ]
  funext x
  exact congrArg (((com z).access (slotR i)).read (Elt F) fs) (Equiv.apply_symm_apply _ x)

variable (P : Dev nD → Part F)

omit [FloatOps F] in
theorem credit_slot (z : Bool) (i : Fin 2) : (slot z i).view.dmaCredit = nU := by
  cases z <;> rfl

/-- One lane's transfer in hop `h`: the sent slot comes back free, the neighbour's message has come with what it brings along. -/
theorem wp_xfer (K : Dev nD × Fin 9 → ℕ) (z : Bool) (h : ℕ) (hh : h < 31) (c n : Dev nD) (hn : n = dst z c)
    (O : CellTallies nD τ sig ℕ) (hO : Above (base z + 2 * h) O) (W : Waits sig ℕ) (Q : PUnit → sProp 𝕄) :
    iprop((invs P K ∗ levAts L lv)
        ∗ hold z (sl h) c (msg P z h c) ∗ need (F := F) z h c ∗ extra (F := F) z h (dst z c)
        ∗ owes (c : Thread nD τ) (O + due z h c) W ∗ toks (F := F) z h c ∗ pos (F := F) z h c
        ∗ ((∃ W', owes (c : Thread nD τ) O W') -∗ free (F := F) z (sl h) c -∗ come P z h c -∗ pos (F := F) z (h + 1) c -∗ Q ⟨⟩))
      ⊢ wpc c (xfer z h n) Q := by
  subst hn
  unfold wpc xfer
  simp only [Prog.lift, Prog.bind_op, Prog.bind_ret]
  unfold need toks pos at0 free hold
  iintro ⟨⟨#HI, #Hlev⟩, ⟨%fs, %hfs, Hs⟩, ⟨⟨%Xd, %fd, %hfd, Hd⟩, #HrD⟩, Hx, HO, ⟨HtS, HtR, HcR⟩, ⟨⟨HaS, #HrS⟩, ⟨HaR, #HrR⟩, HaS', HaR'⟩, Hk⟩
  -- the copy
  iapply (Rounds.wp_send_pointsTo_with Variants.none eR (sched P) (c : Thread nD τ) none (κ₁ := K (c, sIx z (sl h))) (κ₂ := K (dst z c, rIx z (sl (h + 1))))
      (src := slot z (sl h)) (dst := slot z (sl (h + 1))) (c' := Dev.tc (dst z c)) (sS := .dma (semAt (sendS z) (sl h)))
      (sem := .dma (semAt (recvS z) (sl (h + 1)))) (q := fullShare) (fs := fs) (fd := fd) (F := extra (F := F) z h (dst z c))
      (r₁ := h / 2) (r₂ := h / 2) (d₁ := false) (d₂ := false)
      (by rw [hop_duties_s P z h c hh]; exact Finset.mem_singleton_self _) (by rw [hop_duties_r P z h (dst z c) hh]; exact Finset.mem_singleton_self _)
      h h nU (credit_slot z _) rfl rfl O rfl
      (by
        rw [payload_s, slot_set]; unfold free hold
        iintro H; iexists _; iexists fs; isplitr; · ipureintro; rfl
        iexact H)
      (by
        rw [payload_r, hopOf_recv, slot_set]; unfold come hold
        iintro ⟨H, Hx⟩
        isplitl [H]
        · iexists _; isplitr
          · ipureintro; rw [org_dst, ← hfs]; exact landed z (sl h) (sl (h + 1)) fd fs
          iexact H
        iexact Hx) (W := W)) $$ [Hs Hd Hx HO HtS HtR]
  · isplitr; · iapply (inv_s P K z c (sl h)); iexact HI
    isplitr; · iapply (inv_r P K z (dst z c) (sl (h + 1))); iexact HI
    isplitl [Hs]; · rw [slot_set]; iexact Hs
    isplitl [Hd Hx]
    · isplitl [Hd]; · rw [slot_set]; iexact Hd
      iexact Hx
    isplitl [HO]; · iexact HO
    isplitl [HtS]; · iexact HtS
    isplitr; · iexact HrS
    isplitl [HtR]; · iexact HtR
    iexact HrD
  iintro ⟨HcS, HO⟩
  -- the wait for the slot sent
  iapply (Rounds.wp_wait_rest_token Variants.none eR (sched P) (c : Thread nD τ) none (κ := K (c, sIx z (sl h)))
      (sm := .dma (semAt (sendS z) (sl h))) (k' := nU) (fun K' => by rw [wpE_waitDma2_eq Variants.none (c : Thread nD τ) none Set.univ, credit_slot]) (Set.mem_univ _) h (O := O) (W := W) (R := h / 2) (m := 0) (T := ∅)
      (by rw [Nat.zero_add, hop_expect_s P z h c hh])) $$ [HcS HO HaS]
  · isplitr; · iapply (inv_s P K z c (sl h)); iexact HI
    isplitl [HcS]; · iexact HcS
    isplitl [HO]; · iexact HO
    isplitr; · iapply (mayWait c _ h O (hO.mono (Nat.zero_le _)) hh (by rw [lv_s])); iexact Hlev
    iexact HaS
  iintro ⟨HO, HaS, #HrS1, Hpay⟩
  ihave Hs := (Entails.of_eq (hop_rest_s P z h c hh)) $$ Hpay
  -- the wait for the neighbour's message
  iapply (Rounds.wp_wait_rest_token Variants.none eR (sched P) (c : Thread nD τ) none (κ := K (c, rIx z (sl (h + 1))))
      (sm := .dma (semAt (recvS z) (sl (h + 1)))) (k' := nU) (fun K' => by rw [wpE_waitDma2_eq Variants.none (c : Thread nD τ) none Set.univ, credit_slot]) (Set.mem_univ _) h (O := O)
      (W := insert (SemLoc.dma (semAt (sendS z) (sl h)), h) W) (R := h / 2) (m := 0) (T := ∅)
      (by rw [Nat.zero_add, hop_expect_r P z h c hh])) $$ [HcR HO HaR]
  · isplitr; · iapply (inv_r P K z c (sl (h + 1))); iexact HI
    isplitl [HcR]; · iexact HcR
    isplitl [HO]; · iexact HO
    isplitr; · iapply (mayWait c _ h O hO hh (by rw [lv_r])); iexact Hlev
    iexact HaR
  iintro ⟨HO, HaR, #HrR1, Hpay⟩
  ihave Hr := (Entails.of_eq (hop_rest_r P z h c hh)) $$ Hpay
  rw [wp_ret]; imodintro
  iapply Hk $$ [HO] [Hs] [Hr]
  · iexists _; iexact HO
  · unfold free hold; iexact Hs
  · iexact Hr
  rw [show (h + 1) + 1 = h + 2 from rfl, sl_add_two, show (h + 2) / 2 = h / 2 + 1 by omega]
  isplitl [HaS']; · iexact HaS'
  isplitl [HaR']; · iexact HaR'
  isplitl [HaS]; · isplitl [HaS]; · iexact HaS
                   iexact HrS1
  isplitl [HaR]; · iexact HaR
  iexact HrR1

/-! ### Loads and stores -/

/-- Device `c` holds its partial product. -/
def part (c : Dev nD) (p : Part F) : sProp 𝕄 := iprop(((c : Thread nD τ).loc cc0_scratch0) ↦{fullShare} p)

theorem wp_ldSlot (z : Bool) (i : Fin 2) (c : Dev nD) (X : Msg F) (Q : Msg F → sProp 𝕄) :
    iprop(hold z i c X ∗ (hold z i c X -∗ Q X)) ⊢ wpc c (ldSlot z i) Q := by
  unfold wpc ldSlot Prog.lift hold
  iintro ⟨⟨%f, %hf, H⟩, Hk⟩
  iapply (wp_load_rect Variants.none (c : Thread nD τ) none Set.univ (m := com z) (r := slotR i) (Finset.Subset.refl _)) $$ H
  iintro H
  rw [wp_ret, hf]; imodintro
  iapply Hk
  iexists f; isplitr; · ipureintro; exact hf
  iexact H

theorem wp_stSlot (z : Bool) (i : Fin 2) (c : Dev nD) (v X : Msg F) (Q : PUnit → sProp 𝕄) :
    iprop(hold z i c X ∗ (hold z i c v -∗ Q ⟨⟩)) ⊢ wpc c (stSlot z i v) Q := by
  unfold wpc stSlot Prog.lift hold
  iintro ⟨⟨%f, %hf, H⟩, Hk⟩
  iapply (wp_store Variants.none (c : Thread nD τ) none Set.univ (m := com z) (r := slotR i) (Mk := Finset.univ) (by rw [View.setOn_univ])) $$ H
  iintro H
  rw [wp_ret]; imodintro
  iapply Hk
  iexists _; isplitr; rotate_left
  · iexact H
  ipureintro; exact View.read_write_univ _ _

theorem wp_ldPart (off : Fin 2 → ℕ) (ho : ∀ a, off a + S32x2048.size a ≤ S2048x2048.size a) (c : Dev nD) (p : Part F)
    (Q : Vec F S32x2048 .f32 → sProp 𝕄) : iprop(part c p ∗ (part c p -∗ Q (rowsOf p off ho))) ⊢ wpc c (ldPart off ho) Q := by
  unfold wpc ldPart Prog.lift part
  iintro ⟨H, Hk⟩
  iapply (wp_load_rect Variants.none (c : Thread nD τ) none Set.univ (m := partM) (r := Rect.unit (s := S2048x2048) off S32x2048.size ho) (Finset.subset_univ _)) $$ H
  iintro H
  rw [wp_ret]; imodintro
  iapply Hk; iexact H

/-- The addition: the slot holds what came with the device's own rows added. -/
theorem wp_upd (z : Bool) (h : ℕ) (off : Fin 2 → ℕ) (ho : ∀ a, off a + S32x2048.size a ≤ S2048x2048.size a) (c : Dev nD) (X : Msg F) (p : Part F)
    (Q : PUnit → sProp 𝕄) :
    iprop(hold z (sl (h + 1)) c X ∗ part c p ∗ (hold z (sl (h + 1)) c (k0_pay5 X (rowsOf p off ho)) -∗ part c p -∗ Q ⟨⟩)) ⊢ wpc c (upd z h off ho) Q := by
  unfold wpc upd
  simp only [wp_bind]
  iintro ⟨H, Hp, Hk⟩
  iapply (wp_ldSlot z (sl (h + 1)) c X)
  isplitl [H]; · iexact H
  iintro H
  iapply (wp_ldPart off ho c p)
  isplitl [Hp]; · iexact Hp
  iintro Hp
  iapply (wp_ldSlot z (sl (h + 1)) c X)
  isplitl [H]; · iexact H
  iintro H
  iapply (wp_stSlot z (sl (h + 1)) c _ X)
  isplitl [H]; · iexact H
  iintro H
  iapply Hk $$ [H]
  · iexact H
  iexact Hp

/-! ### The hops -/

/-- What a device holds before hop `h`: the two messages it is to send, the slot the first of them goes to, its other slot of the second lane, what it
    owes, its tokens and positions, its partial product. -/
def before (h : ℕ) (c : Dev nD) : sProp 𝕄 :=
  iprop(hold false (sl h) c (msg P false h c) ∗ need (F := F) false h c ∗ hold true (sl h) c (msg P true h c) ∗ free (F := F) true (sl (h + 1)) c
    ∗ (∃ W, owes (c : Thread nD τ) (owed h c) W) ∗ toksFrom (F := F) h c ∗ pos (F := F) false h c ∗ pos (F := F) true h c ∗ part c (P c))

/-- The slot sent last stays. -/
def keep (h : ℕ) (c : Dev nD) : sProp 𝕄 := if h < 30 then iprop(emp) else free (F := F) false (sl h) c

omit [FloatOps F] in
/-- The slot of the first lane, once sent, goes along with the message of the second lane — but not in the last hop. -/
theorem bring_true (h : ℕ) (c : Dev nD) :
    iprop(free (F := F) false (sl h) c ∗ reached eR (rCell false c (sl h)) ((h + 1) / 2)) ⊢ iprop(extra (F := F) true h (dst true c) ∗ keep (F := F) h c) := by
  show _ ⊢ iprop((if h < 30 then need (F := F) false (h + 1) (prv c) else iprop(emp)) ∗ _)
  unfold keep need
  rw [show dst false (prv c) = c from nxt_prv c, show h + 1 + 1 = h + 2 from rfl, sl_add_two]
  by_cases hh : h < 30
  · rw [if_pos hh, if_pos hh]
    iintro ⟨H, Hr⟩
    isplitl
    · isplitl [H] <;> iassumption
    iempintro
  · rw [if_neg hh, if_neg hh]
    iintro ⟨H, -⟩
    isplitr; · iempintro
    iexact H

omit [FloatOps F] in
/-- The free slot of the second lane goes along with the message of the first lane. -/
theorem bring_false (h : ℕ) (c : Dev nD) :
    iprop(free (F := F) true (sl (h + 1)) c ∗ reached eR (rCell true c (sl (h + 1))) (h / 2)) ⊢ extra (F := F) false h (dst false c) := by
  show _ ⊢ need (F := F) true h (nxt c)
  unfold need
  rw [show dst true (nxt c) = c from prv_nxt c]

omit [FloatOps F] in
theorem pos_reached (z : Bool) (h : ℕ) (c : Dev nD) :
    pos (F := F) z h c ⊢ iprop(pos (F := F) z h c ∗ reached eR (rCell z c (sl (h + 1))) (h / 2) ∗ reached eR (rCell z c (sl h)) ((h + 1) / 2)) := by
  unfold pos at0
  iintro ⟨H1, ⟨H2, #Hr⟩, H3, ⟨H4, #Hr'⟩⟩
  isplitl
  · isplitl [H1]; · iexact H1
    isplitl [H2]; · isplitl [H2]; · iexact H2
                    iexact Hr
    isplitl [H3]; · iexact H3
    isplitl [H4]; · iexact H4
    iexact Hr'
  isplitr; · iexact Hr
  iexact Hr'

/-- What it holds after the two transfers of hop `h`. -/
def between (h : ℕ) (c : Dev nD) : sProp 𝕄 :=
  iprop(keep (F := F) h c ∗ hold false (sl (h + 1)) c (msg P false h (prv c)) ∗ free (F := F) true (sl h) c
    ∗ hold true (sl (h + 1)) c (msg P true h (nxt c)) ∗ extra (F := F) true h c
    ∗ (∃ W, owes (c : Thread nD τ) (owed (h + 1) c) W) ∗ toksFrom (F := F) (h + 1) c ∗ pos (F := F) false (h + 1) c ∗ pos (F := F) true (h + 1) c ∗ part c (P c))

/-- The two transfers of a hop. -/
theorem wp_transfers (K : Dev nD × Fin 9 → ℕ) (h : ℕ) (hh : h < 31) (c : Dev nD) (Q : PUnit → sProp 𝕄) :
    iprop((invs P K ∗ levAts L lv) ∗ before P h c ∗ (between P h c -∗ Q ⟨⟩))
      ⊢ wpc c (xfer false h (toDev false c)) (fun _ => wpc c (xfer true h (toDev true c)) Q) := by
  unfold before
  rw [owed_step h c hh, toksFrom_step h c hh]
  iintro ⟨⟨#HI, #Hlev⟩, ⟨HA, HnA, HB, HfB, ⟨%W, HO⟩, ⟨⟨HtA, HtB⟩, Htk⟩, HpA, HpB, Hp⟩, Hk⟩
  ihave HpB := (pos_reached true h c) $$ HpB
  icases HpB with ⟨HpB, #HrB, -⟩
  iapply (wp_xfer P K false h hh c _ (toDev_eq false c) (owed (h + 1) c + due true h c)
    ((above_owed (h + 1) c (by show 2 + 2 * h < 2 + 2 * (h + 1); omega)).add (above_due true h c hh (by show 2 + 2 * h < 3 + 2 * h; omega))) W)
  isplitr; · isplitr; · iexact HI
             iexact Hlev
  isplitl [HA]; · iexact HA
  isplitl [HnA]; · iexact HnA
  isplitl [HfB]
  · iapply (bring_false h c)
    isplitl [HfB]; · iexact HfB
    iexact HrB
  isplitl [HO]; · iexact HO
  isplitl [HtA]; · iexact HtA
  isplitl [HpA]; · iexact HpA
  iintro ⟨%W', HO⟩ HsA HcA HpA
  ihave HpA := (pos_reached false (h + 1) c) $$ HpA
  icases HpA with ⟨HpA, #HrA, -⟩
  unfold come
  icases HcA with ⟨HA, HnB⟩
  ihave HnB := (show extra (F := F) false h c ⊢ need (F := F) true h c from Entails.of_eq rfl) $$ HnB
  ihave HsA' := (bring_true h c) $$ [HsA]
  · isplitl [HsA]; · iexact HsA
    rw [← sl_add_two h]; iexact HrA
  icases HsA' with ⟨Hx, Hkeep⟩
  iapply (wp_xfer P K true h hh c _ (toDev_eq true c) (owed (h + 1) c) (above_owed (h + 1) c (by show 3 + 2 * h < 2 + 2 * (h + 1); omega)) W')
  isplitr; · isplitr; · iexact HI
             iexact Hlev
  isplitl [HB]; · iexact HB
  isplitl [HnB]; · iexact HnB
  isplitl [Hx]; · iexact Hx
  isplitl [HO]; · iexact HO
  isplitl [HtB]; · iexact HtB
  isplitl [HpB]; · iexact HpB
  iintro HO HsB HcB HpB
  unfold come
  icases HcB with ⟨HB, HnA⟩
  iapply Hk
  unfold between
  isplitl [Hkeep]; · iexact Hkeep
  isplitl [HA]; · iexact HA
  isplitl [HsB]; · iexact HsB
  isplitl [HB]; · iexact HB
  isplitl [HnA]; · iexact HnA
  isplitl [HO]; · iexact HO
  isplitl [Htk]; · iexact Htk
  isplitl [HpA]; · iexact HpA
  isplitl [HpB]; · iexact HpB
  iexact Hp

/-- What a device holds when its two last messages have come. -/
def last (c : Dev nD) : sProp 𝕄 := between P 30 c

theorem wp_hop (K : Dev nD × Fin 9 → ℕ) (h : ℕ) (hh : h < 30) (c : Dev nD) (Q : PUnit → sProp 𝕄) :
    iprop((invs P K ∗ levAts L lv) ∗ before P h c ∗ (before P (h + 1) c -∗ Q ⟨⟩)) ⊢ wpc c (hop c h (hh.trans (by decide))) Q := by
  unfold hop
  have e (p q r s : Prog (Eff F) PUnit) : wpc c (do p; q; r; s) Q = wpc c p fun _ => wpc c q fun _ => wpc c r fun _ => wpc c s Q := by
    unfold wpc; simp only [wp_bind]
  rw [e]
  iintro ⟨#HI, Hb, Hk⟩
  iapply (wp_transfers P K h (hh.trans (by decide)) c)
  isplitr; · iexact HI
  isplitl [Hb]; · iexact Hb
  unfold between
  iintro ⟨-, HA, HsB, HB, Hx, HO, Htk, HpA, HpB, Hp⟩
  iapply (wp_upd false h (addOff false c h) (addOff_inb false c h (hh.trans (by decide))) c _ (P c))
  isplitl [HA]; · iexact HA
  isplitl [Hp]; · iexact Hp
  iintro HA Hp
  iapply (wp_upd true h (addOff true c h) (addOff_inb true c h (hh.trans (by decide))) c _ (P c))
  isplitl [HB]; · iexact HB
  isplitl [Hp]; · iexact Hp
  iintro HB Hp
  iapply Hk
  unfold before
  rw [addRows_eq _ _ _ _ (hh.trans (by decide)), addRows_eq _ _ _ _ (hh.trans (by decide))]
  isplitl [HA]; · iexact HA
  isplitl [Hx]
  · iapply (show extra (F := F) true h c ⊢ need (F := F) false (h + 1) c from Entails.of_eq (if_pos hh)); iexact Hx
  isplitl [HB]; · iexact HB
  isplitl [HsB]; · rw [show h + 1 + 1 = h + 2 from rfl, sl_add_two]; iexact HsB
  isplitl [HO]; · iexact HO
  isplitl [Htk]; · iexact Htk
  isplitl [HpA]; · iexact HpA
  isplitl [HpB]; · iexact HpB
  iexact Hp

/-- All the hops but the last, by induction on their number. -/
theorem wp_hops (K : Dev nD × Fin 9 → ℕ) (c : Dev nD) (Q : PUnit → sProp 𝕄) (R : sProp 𝕄)
    (hlast : iprop((invs P K ∗ levAts L lv) ∗ before P 30 c ∗ R) ⊢ wpc c (lastHop c) Q) :
    ∀ (n h : ℕ) (hn : h + n = 30), iprop((invs P K ∗ levAts L lv) ∗ before P h c ∗ R) ⊢ wpc c (hops c n h hn) Q
  | 0, h, hn => by
    obtain rfl : h = 30 := by omega
    exact hlast
  | n + 1, h, hn => by
    have ih := wp_hops K c Q R hlast n (h + 1) (by omega)
    show _ ⊢ wpc c (do hop c h (by omega); hops c n (h + 1) (by omega)) Q
    have e (p q : Prog (Eff F) PUnit) : wpc c (do p; q) Q = wpc c p fun _ => wpc c q Q := by
      unfold wpc; simp only [wp_bind]
    rw [e]
    iintro ⟨#HI, Hb, HR⟩
    iapply (wp_hop P K h (by omega) c)
    isplitr; · iexact HI
    isplitl [Hb]; · iexact Hb
    iintro Hb
    iapply ih
    isplitr; · iexact HI
    isplitl [Hb]; · iexact Hb
    iexact HR

/-! ### The last hop -/

abbrev halfR (i : Fin 2) : Rect S64x2048 := Rect.unit (s := S64x2048) ![32 * i.val, 0] S32x2048.size (inb_out i)

abbrev Out (F : FTy → Type) := (cc0_stg2_0 : Ref sig .tc).ty.Contents (Elt F)

/-- The output block with half `i` written. -/
abbrev putHalf (i : Fin 2) (f : Out F) (v : FVec F S32x2048 .f32) : Out F := (outM.access (halfR i)).write (Elt F) f v Finset.univ

def out (c : Dev nD) (f : Out F) : sProp 𝕄 := iprop(((c : Thread nD τ).loc cc0_stg2_0) ↦{fullShare} f)

theorem wp_putOut (i : Fin 2) (c : Dev nD) (v : FVec F S32x2048 .f32) (f : Out F) (Q : PUnit → sProp 𝕄) :
    iprop(out c f ∗ (out c (putHalf i f v) -∗ Q ⟨⟩)) ⊢ wpc c (putOut i v) Q := by
  unfold wpc putOut out
  simp only [Prog.lift, Prog.bind_op, Prog.bind_ret]
  iintro ⟨H, Hk⟩
  iapply (wp_load_rect Variants.none (c : Thread nD τ) none Set.univ (m := outM) (r := halfR i) (Finset.subset_univ _)) $$ H
  iintro H
  iapply (wp_store Variants.none (c : Thread nD τ) none Set.univ (m := outM) (r := halfR i) (Mk := Finset.univ) (Finset.subset_univ _)) $$ H
  iintro H
  rw [wp_ret]; imodintro
  iapply Hk; iexact H

/-- The two halves of a device's result. -/
def outA (c : Dev nD) : FVec F S32x2048 .f32 := k0_pay84 (msg P false 30 (prv c)) (addRows (P c) false c 30)
def outB (c : Dev nD) : FVec F S32x2048 .f32 := k0_pay1 (k0_pay83 (msg P true 30 (nxt c)) (addRows (P c) true c 30))

end Cert.Proof

end
-- ==== Proof.Body.lean ====
/-
  The body of the kernel on one device: the handshake with both neighbours, the partial product, the hops, the last hop, and every
  semaphore back at zero.
-/
module

public import proofs.«01_k».proof.Proof.Transfer
public import Idealize.ShloMosaic.Lib.Ring

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ RR ℕ

/-! ### A lane's buffer and its two slots -/

abbrev slotSet (z : Bool) (c : Dev nD) (i : Fin 2) : Finset (Idx ((com z).view.loc (c : Thread nD τ))) := ((com z).access (slotR i)).set

theorem slotSet_eq (z : Bool) (c : Dev nD) (i : Fin 2) : slotSet z c i = (slotR i).set.map (com z).view.emb := View.set_slice _ _

theorem slots_disjoint (z : Bool) (c : Dev nD) (i j : Fin 2) (h : i ≠ j) : Disjoint (slotSet z c i) (slotSet z c j) := by
  rw [slotSet_eq, slotSet_eq, Finset.disjoint_map]
  exact Ring.lead_disjoint (s := S2x32x2048) (0 : Fin 3) 1 (fun j : Fin 2 => (![j.val, 0, 0] : Fin 3 → Nat)) S1x32x2048.size inb_slot (fun j => by simp) rfl i j h
theorem slots_cover (z : Bool) (c : Dev nD) : Finset.univ.biUnion (slotSet z c) = Finset.univ := by
  have h : Finset.univ.biUnion (fun i : Fin 2 => (slotR i).set) = Finset.univ :=
    Ring.lead_cover (s := S2x32x2048) (0 : Fin 3) 1 (fun j : Fin 2 => (![j.val, 0, 0] : Fin 3 → Nat)) S1x32x2048.size inb_slot (fun j => by simp)
      (fun j a ha => by fin_cases a <;> first | exact absurd rfl ha | rfl) rfl (fun a ha => by fin_cases a <;> first | exact absurd rfl ha | rfl) rfl
  cases z
  · refine Eq.trans ?_ h
    exact Finset.biUnion_congr rfl fun i _ => View.set_slice_whole _ _
  · refine Eq.trans ?_ h
    exact Finset.biUnion_congr rfl fun i _ => View.set_slice_whole _ _

/-- A slot held, at buffer contents. -/
def slotAt (z : Bool) (i : Fin 2) (c : Dev nD) (f : Buf (Elt F) ((com z).view.loc (c : Thread nD τ))) : sProp 𝕄 :=
  iprop((com z).view.loc (c : Thread nD τ) ↦[((com z).access (slotR i)).set]{fullShare} f)

omit [FloatOps F] in
theorem free_eq (z : Bool) (i : Fin 2) (c : Dev nD) : (free (F := F) z i c : sProp 𝕄) ⊢ iprop(∃ f, slotAt z i c f) := by
  unfold free hold slotAt
  iintro ⟨%X, %f, %hf, H⟩; iexists f; iexact H
omit [FloatOps F] in
theorem free_of (z : Bool) (i : Fin 2) (c : Dev nD) : iprop(∃ f, slotAt z i c f) ⊢ (free (F := F) z i c : sProp 𝕄) := by
  unfold free hold slotAt
  iintro ⟨%f, H⟩; iexists _; iexists f; isplitr; · ipureintro; rfl
  iexact H
omit [FloatOps F] in
theorem free_hold (z : Bool) (i : Fin 2) (c : Dev nD) (X : Msg F) : (hold (F := F) z i c X : sProp 𝕄) ⊢ free (F := F) z i c := by
  unfold free; iintro H; iexists X; iexact H

/-- A lane's buffer held whole, at some contents. -/
def lane (z : Bool) (c : Dev nD) : sProp 𝕄 := iprop(∃ f, (com z).view.loc (c : Thread nD τ) ↦{fullShare} f)

omit [FloatOps F] in
theorem lane_split (z : Bool) (c : Dev nD) : lane (F := F) z c ⊢ iprop(free (F := F) z 0 c ∗ free (F := F) z 1 c) :=
  (Ring.slots2_split (U := RR) (q := fullShare) (slotSet z c) (slots_disjoint z c) (slots_cover z c)
      (slotAt z 0 c) (slotAt z 1 c) (fun f => rfl) (fun f => rfl)).trans (BIClass.sep_mono (free_of z 0 c) (free_of z 1 c))
omit [FloatOps F] in
theorem lane_join (z : Bool) (c : Dev nD) : iprop(free (F := F) z 0 c ∗ free (F := F) z 1 c) ⊢ lane (F := F) z c :=
  (show _ ⊢ iprop((∃ f, slotAt z 0 c f) ∗ ∃ f, slotAt z 1 c f) from BIClass.sep_mono (free_eq z 0 c) (free_eq z 1 c)).trans (Ring.slots2_join (U := RR) (q := fullShare) (slotSet z c) (slots_disjoint z c) (slots_cover z c)
      (slotAt z 0 c) (slotAt z 1 c) (fun f => rfl) (fun f => rfl))

/-! ### The prologue -/

theorem zeros2 : (![0, 0] : Fin 2 → Nat) = fun _ => 0 := funext fun a => by fin_cases a <;> rfl

/-- The staging buffers of the two inputs. -/
abbrev StgX (F : FTy → Type) := (cc0_stg0_0 : Ref sig .tc).ty.Contents (Elt F)
abbrev StgW (F : FTy → Type) := (cc0_stg1_0 : Ref sig .tc).ty.Contents (Elt F)
def stgX (c : Dev nD) (x : StgX F) : sProp 𝕄 := iprop(((c : Thread nD τ).loc cc0_stg0_0) ↦{fullShare} x)
def stgW (c : Dev nD) (w : StgW F) : sProp 𝕄 := iprop(((c : Thread nD τ).loc cc0_stg1_0) ↦{fullShare} w)

variable (P : Dev nD → Part F)

/-- A device's share of the barrier: its position on its own cell, the tokens of its two signals, the credit of its wait. -/
def bar (c : Dev nD) : sProp 𝕄 :=
  iprop(atPos eR (bCell c) 0 ∅ 0 ∗ (dutyTok eR (bCell (prv c)) 0 true ∗ reached eR (bCell (prv c)) 0)
    ∗ (dutyTok eR (bCell (nxt c)) 0 false ∗ reached eR (bCell (nxt c)) 0) ∗ cred (tallyAt (bCell c) 0 2))

/-- What a device starts from, beside its buffers. -/
def begin (c : Dev nD) : sProp 𝕄 :=
  iprop(bar (F := F) c ∗ toksFrom (F := F) 0 c ∗ pos (F := F) false 0 c ∗ pos (F := F) true 0 c)

theorem bCell_ix (K : Dev nD × Fin 9 → ℕ) (c : Dev nD) : invs P K ⊢ cellInv eR (sched P) (K (c, 0)) (bCell c) := inv_of P K (c, 0)

/-- The handshake: two signals and the wait. -/
theorem wp_handshake (K : Dev nD × Fin 9 → ℕ) (c : Dev nD) (W : Waits sig ℕ) (Q : Dev nD → sProp 𝕄) (k : Dev nD → Prog (Eff F) (Dev nD)) :
    iprop((invs P K ∗ levAts L lv) ∗ bar (F := F) c ∗ owes (c : Thread nD τ) (owed₀ c) W ∗ free (F := F) false 1 c ∗ reached eR (rCell false c 1) 0
        ∗ ((∃ W', owes (c : Thread nD τ) (owed 0 c) W') -∗ need (F := F) false 0 c -∗ atPos eR (bCell c) 1 ∅ 0 -∗ wpc c (k c) Q))
      ⊢ wpc c (do
        let d ← Prog.lift .deviceId
        semSignalWord (⟨k0_dev1 d, k0_dev1_lt d⟩ : Dev nD) barS 1#32
        semSignalWord (⟨k0_dev2 d, k0_dev2_lt d⟩ : Dev nD) barS 1#32
        semWaitWord barS 2#32
        k d) Q := by
  unfold wpc
  simp only [semSignalWord, semWaitWord, Prog.lift, Prog.bind_op, Prog.bind_ret, Prog.pure_eq_ret, wp_deviceId]
  unfold bar owed₀
  iintro ⟨⟨#HI, #Hlev⟩, ⟨HaB, ⟨HtP, #HrP⟩, ⟨HtN, #HrN⟩, HcB⟩, HO, Hf, #Hr, Hk⟩
  simp only [sigDev1_eq c, sigDev2_eq c]
  iapply (Rounds.wp_signal Variants.none eR (sched P) (c : Thread nD τ) none (dst := (prv c : Thread nD τ)) (κ := K (prv c, 0))
      (d := true) (by rw [duties_b]; exact Finset.mem_univ _) (rfl) 0 (owed 0 c + tallyAt (bCell (nxt c)) 0 1) rfl)
    $$ [HO HtP Hf]
  · isplitr; · iapply (bCell_ix P K (prv c)); iexact HI
    isplitl [HO]; · iexact HO
    isplitl [HtP]; · iexact HtP
    isplitl [Hf]
    · rw [payload_b_true]; unfold need; rw [show dst false (prv c) = c from nxt_prv c]
      isplitl [Hf]; · iexact Hf
      iexact Hr
    iexact HrP
  iintro HO
  iapply (Rounds.wp_signal Variants.none eR (sched P) (c : Thread nD τ) none (dst := (nxt c : Thread nD τ)) (κ := K (nxt c, 0))
      (d := false) (by rw [duties_b]; exact Finset.mem_univ _) (rfl) 0 (owed 0 c) rfl)
    $$ [HO HtN]
  · isplitr; · iapply (bCell_ix P K (nxt c)); iexact HI
    isplitl [HO]; · iexact HO
    isplitl [HtN]; · iexact HtN
    isplitr; · rw [payload_b_false]; iempintro
    iexact HrN
  iintro HO
  iapply (Rounds.wp_wait_rest_token Variants.none eR (sched P) (c : Thread nD τ) none (κ := K (c, 0))
      (wpE_semWait_eq Variants.none (c : Thread nD τ) none Set.univ) (Set.mem_univ _) 0 (O := owed 0 c) (W := W) (R := 0) (m := 0) (T := ∅)
      (by rw [expect_b]; decide)) $$ [HcB HO HaB]
  · isplitr; · iapply (bCell_ix P K c); iexact HI
    isplitl [HcB]; · iexact HcB
    isplitl [HO]; · iexact HO
    isplitr; · iapply (mayWait c (.reg barS) 0 (owed 0 c) (above_owed (b := 1) 0 c (by decide)) (by decide) (Nat.le_refl 1)); iexact Hlev
    iexact HaB
  iintro ⟨HO, HaB, -, Hpay⟩
  ihave Hp := (Entails.of_eq (rest_b P c)) $$ Hpay
  icases Hp with ⟨-, Hn⟩
  iapply Hk $$ [HO] [Hn]
  · iexists _; iexact HO
  · iexact Hn
  iexact HaB

/-- One lane's first message. -/
abbrev start (z : Bool) (d : Dev nD) : Prog (Eff F) PUnit := do
  let p ← ldPart (initOff z d) (initOff_inb z d)
  let _ ← ldSlot z 0
  stSlot z 0 (k0_pay3 p)

theorem wp_start (z : Bool) (c : Dev nD) (Q : PUnit → sProp 𝕄) :
    iprop(free (F := F) z 0 c ∗ part c (P c) ∗ (hold z 0 c (msg P z 0 c) -∗ part c (P c) -∗ Q ⟨⟩)) ⊢ wpc c (start z c) Q := by
  unfold wpc start free
  simp only [wp_bind]
  iintro ⟨⟨%X, H⟩, Hp, Hk⟩
  iapply (wp_ldPart (initOff z c) (initOff_inb z c) c (P c))
  isplitl [Hp]; · iexact Hp
  iintro Hp
  iapply (wp_ldSlot z 0 c X)
  isplitl [H]; · iexact H
  iintro H
  iapply (wp_stSlot z 0 c _ X)
  isplitl [H]; · iexact H
  iintro H
  iapply Hk $$ [H]
  · iexact H
  iexact Hp

/-- The partial product. -/
abbrev product : Prog (Eff F) PUnit := do
  let x : Vec F S2048x64 .bf16 ← Prog.lift (.load (Memref.whole cc0_stg0_0) (Rect.unit (s := S2048x64) ![0, 0] S2048x64.size inb_S2048x64_S2048x64_0_0).toLoadRect (View.loadsAt_vmem h_S2048x64))
  let w : Vec F S64x2048 .bf16 ← Prog.lift (.load (Memref.whole cc0_stg1_0) (Rect.unit (s := S64x2048) ![0, 0] S64x2048.size inb_S64x2048_S64x2048_0_0).toLoadRect (View.loadsAt_vmem h_S64x2048))
  let _ ← (Prog.lift (.load partM (Rect.unit (s := S2048x2048) ![0, 0] S2048x2048.size inb_S2048x2048_S2048x2048_0_0).toLoadRect (View.loadsAt_vmem h_S2048x2048)) : Prog (Eff F) (Vec F S2048x2048 .f32))
  Prog.lift (.store partM (Rect.unit (s := S2048x2048) ![0, 0] S2048x2048.size inb_S2048x2048_S2048x2048_0_0) (k0_pay2 x w) Finset.univ (View.stores_vmem_bits_univ h_S2048x2048 rfl) (.inl rfl))

theorem wp_product (c : Dev nD) (x : StgX F) (w : StgW F) (p : Part F) (Q : PUnit → sProp 𝕄) :
    iprop(stgX c x ∗ stgW c w ∗ part c p ∗ (stgX c x -∗ stgW c w -∗ part c (k0_pay2 x w : Part F) -∗ Q ⟨⟩)) ⊢ wpc c product Q := by
  unfold wpc product stgX stgW part
  simp only [Prog.lift, Prog.bind_op, Prog.bind_ret]
  iintro ⟨Hx, Hw, Hp, Hk⟩
  iapply (wp_load Variants.none (c : Thread nD τ) none Set.univ (m := Memref.whole cc0_stg0_0) (Finset.subset_univ _)) $$ Hx; iintro Hx
  rw [show (Memref.whole cc0_stg0_0).view.readAt (Elt F) (Rect.unit (s := S2048x64) ![0, 0] ![2048, 64] inb_S2048x64_S2048x64_0_0).toLoadRect x = x from
    Memref.readAt_unit_zero (Elt F) cc0_stg0_0 zeros2 _ x]
  iapply (wp_load Variants.none (c : Thread nD τ) none Set.univ (m := Memref.whole cc0_stg1_0) (Finset.subset_univ _)) $$ Hw; iintro Hw
  rw [show (Memref.whole cc0_stg1_0).view.readAt (Elt F) (Rect.unit (s := S64x2048) ![0, 0] ![64, 2048] inb_S64x2048_S64x2048_0_0).toLoadRect w = w from
    Memref.readAt_unit_zero (Elt F) cc0_stg1_0 zeros2 _ w]
  iapply (wp_load Variants.none (c : Thread nD τ) none Set.univ (m := partM) (Finset.subset_univ _)) $$ Hp; iintro Hp
  iapply (wp_store Variants.none (c : Thread nD τ) none Set.univ (m := partM) (r := Rect.unit (s := S2048x2048) ![0, 0] S2048x2048.size inb_S2048x2048_S2048x2048_0_0) (Mk := Finset.univ) (Finset.subset_univ _)) $$ Hp; iintro Hp
  rw [show (partM.access (Rect.unit (s := S2048x2048) ![0, 0] S2048x2048.size inb_S2048x2048_S2048x2048_0_0)).write (Elt F) p (k0_pay2 x w) Finset.univ = k0_pay2 x w from
    Memref.write_access_unit_zero_univ (Elt F) cc0_scratch0 zeros2 _ p _, wp_ret]; imodintro
  iapply Hk $$ [Hx] [Hw]
  · iexact Hx
  · iexact Hw
  iexact Hp

/-- The prologue leaves the device before its first hop. -/
theorem wp_prologue (K : Dev nD × Fin 9 → ℕ) (c : Dev nD) (x : StgX F) (w : StgW F) (hP : P c = k0_pay2 x w) (p : Part F) (W : Waits sig ℕ)
    (Q : Dev nD → sProp 𝕄) :
    iprop((invs P K ∗ levAts L lv) ∗ begin (F := F) c ∗ owes (c : Thread nD τ) (owed₀ c) W ∗ lane (F := F) false c ∗ lane (F := F) true c ∗ part c p ∗ stgX c x ∗ stgW c w
        ∗ (before P 0 c -∗ atPos eR (bCell c) 1 ∅ 0 -∗ stgX c x -∗ stgW c w -∗ Q c))
      ⊢ wpc c prologue Q := by
  have e : (prologue : Prog (Eff F) (Dev nD)) = (do
      let d ← Prog.lift .deviceId
      semSignalWord (⟨k0_dev1 d, k0_dev1_lt d⟩ : Dev nD) barS 1#32
      semSignalWord (⟨k0_dev2 d, k0_dev2_lt d⟩ : Dev nD) barS 1#32
      semWaitWord barS 2#32
      (do product; start false d; start true d; pure d)) := by chain_rfl
  have e2 (d : Dev nD) (Q : Dev nD → sProp 𝕄) : wpc c (do product; start false d; start true d; pure d) Q
      = wpc c product fun _ => wpc c (start false d) fun _ => wpc c (start true d) fun _ => wpc c (pure d) Q := by
    unfold wpc; simp only [wp_bind]
  rw [e]
  unfold begin
  iintro ⟨⟨#HI, #Hlev⟩, ⟨Hbar, Htk, HpA, HpB⟩, HO, HlA, HlB, Hp, Hx, Hw, Hk⟩
  ihave HpA := (pos_reached false 0 c) $$ HpA
  icases HpA with ⟨HpA, #HrA, -⟩
  ihave HlA := (lane_split false c) $$ HlA
  icases HlA with ⟨HA0, HA1⟩
  ihave HlB := (lane_split true c) $$ HlB
  icases HlB with ⟨HB0, HB1⟩
  iapply (wp_handshake P K c W Q)
  isplitr; · isplitr; · iexact HI
             iexact Hlev
  isplitl [Hbar]; · iexact Hbar
  isplitl [HO]; · iexact HO
  isplitl [HA1]; · iexact HA1
  isplitr; · iexact HrA
  iintro HO Hn HaB
  rw [e2]
  iapply (wp_product c x w p)
  isplitl [Hx]; · iexact Hx
  isplitl [Hw]; · iexact Hw
  isplitl [Hp]; · iexact Hp
  iintro Hx Hw Hp
  rw [← hP]
  iapply (wp_start P false c)
  isplitl [HA0]; · iexact HA0
  isplitl [Hp]; · iexact Hp
  iintro HA Hp
  iapply (wp_start P true c)
  isplitl [HB0]; · iexact HB0
  isplitl [Hp]; · iexact Hp
  iintro HB Hp
  unfold wpc
  rw [Prog.pure_eq_ret, wp_ret]; imodintro
  iapply Hk $$ [HO Hn Htk HpA HpB HA HB HB1 Hp] [HaB] [Hx]
  · unfold before
    isplitl [HA]; · iexact HA
    isplitl [Hn]; · iexact Hn
    isplitl [HB]; · iexact HB
    isplitl [HB1]; · iexact HB1
    isplitl [HO]; · iexact HO
    isplitl [Htk]; · iexact Htk
    isplitl [HpA]; · iexact HpA
    isplitl [HpB]; · iexact HpB
    iexact Hp
  · iexact HaB
  · iexact Hx
  iexact Hw

/-! ### The last hop and the end -/

/-- A device's result block, over what the block held. -/
abbrev outOver (c : Dev nD) (f : Out F) : Out F := putHalf 1 (putHalf 0 f (outA P c)) (outB P c)

/-- A lane's four semaphores at zero. -/
def zero (z : Bool) (c : Dev nD) : sProp 𝕄 :=
  iprop(semVal (sCell z c 0) 0 ∗ semVal (sCell z c 1) 0 ∗ semVal (rCell z c 0) 0 ∗ semVal (rCell z c 1) 0)

/-- Past the last hop a lane's semaphores are closed. -/
theorem lane_close (K : Dev nD × Fin 9 → ℕ) (z : Bool) (c : Dev nD) :
    iprop(invs P K ∗ pos (F := F) z 31 c) ⊢ |={Set.univ}=> zero (F := F) z c := by
  unfold pos at0 zero
  iintro ⟨#HI, ⟨H1, -⟩, ⟨H2, -⟩, ⟨H3, -⟩, ⟨H4, -⟩⟩
  imod (Rounds.cell_close eR (sched P) (Set.mem_univ (K (c, sIx z 1))) (fun h => h) (R := 15) (duties_s_end P z c 1 15 (by decide))) $$ [H1] with H1
  · isplitr; · iapply (inv_s P K z c 1); iexact HI
    iexact H1
  imod (Rounds.cell_close eR (sched P) (Set.mem_univ (K (c, rIx z 0))) (fun h => h) (R := 15) (duties_r_end P z c 0 15 (by decide))) $$ [H2] with H2
  · isplitr; · iapply (inv_r P K z c 0); iexact HI
    iexact H2
  imod (Rounds.cell_close eR (sched P) (Set.mem_univ (K (c, sIx z 0))) (fun h => h) (R := 16) (duties_s_end P z c 0 16 (by decide))) $$ [H3] with H3
  · isplitr; · iapply (inv_s P K z c 0); iexact HI
    iexact H3
  imod (Rounds.cell_close eR (sched P) (Set.mem_univ (K (c, rIx z 1))) (fun h => h) (R := 16) (duties_r_end P z c 1 16 (by decide))) $$ [H4] with H4
  · isplitr; · iapply (inv_r P K z c 1); iexact HI
    iexact H4
  imodintro
  isplitl [H3]; · iexact H3
  isplitl [H1]; · iexact H1
  isplitl [H2]; · iexact H2
  iexact H4

/-- What a device holds at the end of the body: its scratch buffers, every semaphore of the protocol at zero. -/
def finish (c : Dev nD) : sProp 𝕄 :=
  iprop((∃ p : Part F, part c p) ∗ lane (F := F) false c ∗ lane (F := F) true c ∗ zero (F := F) false c ∗ zero (F := F) true c ∗ semVal (bCell c) 0)

theorem wp_lastHop (K : Dev nD × Fin 9 → ℕ) (c : Dev nD) (f : Out F) (Q : PUnit → sProp 𝕄) :
    iprop((invs P K ∗ levAts L lv) ∗ before P 30 c ∗ (out c f ∗ atPos eR (bCell c) 1 ∅ 0
        ∗ (finish (F := F) c -∗ (∃ W', owes (c : Thread nD τ) 0 W') -∗ out c (outOver P c f) -∗ Q ⟨⟩))) ⊢ wpc c (lastHop c) Q := by
  have e : wpc c (lastHop (F := F) c) Q = wpc c (xfer false 30 (toDev false c)) fun _ => wpc c (xfer true 30 (toDev true c)) fun _ =>
      wpc c (ldSlot false (sl 31)) fun va => wpc c (ldPart (addOff false c 30) (addOff_inb false c 30 (by decide))) fun pa =>
      wpc c (ldSlot true (sl 31)) fun vb => wpc c (ldPart (addOff true c 30) (addOff_inb true c 30 (by decide))) fun pb =>
      wpc c (putOut 0 (k0_pay84 va pa)) fun _ => wpc c (putOut 1 (k0_pay1 (k0_pay83 vb pb))) fun _ => wpc c (pure ⟨⟩) Q := by
    unfold wpc lastHop; simp only [wp_bind]
  rw [e]
  iintro ⟨⟨#HI, #Hlev⟩, Hb, Hout, HaB, Hk⟩
  iapply (wp_transfers P K 30 (by decide) c)
  isplitr; · isplitr; · iexact HI
             iexact Hlev
  isplitl [Hb]; · iexact Hb
  unfold between
  iintro ⟨HsA, HA, HsB, HB, -, HO, -, HpA, HpB, Hp⟩
  iapply (wp_ldSlot false (sl 31) c)
  isplitl [HA]; · iexact HA
  iintro HA
  iapply (wp_ldPart (addOff false c 30) (addOff_inb false c 30 (by decide)) c)
  isplitl [Hp]; · iexact Hp
  iintro Hp
  iapply (wp_ldSlot true (sl 31) c)
  isplitl [HB]; · iexact HB
  iintro HB
  iapply (wp_ldPart (addOff true c 30) (addOff_inb true c 30 (by decide)) c)
  isplitl [Hp]; · iexact Hp
  iintro Hp
  rw [addRows_eq _ _ _ _ (by decide), addRows_eq _ _ _ _ (by decide)]
  iapply (wp_putOut 0 c _ f)
  isplitl [Hout]; · iexact Hout
  iintro Hout
  iapply (wp_putOut 1 c)
  isplitl [Hout]; · iexact Hout
  iintro Hout
  unfold wpc
  rw [Prog.pure_eq_ret, wp_ret]
  imod (lane_close P K false c) $$ [HpA] with HzA
  · isplitr; · iexact HI
    iexact HpA
  imod (lane_close P K true c) $$ [HpB] with HzB
  · isplitr; · iexact HI
    iexact HpB
  imod (Rounds.cell_close eR (sched P) (Set.mem_univ (K (c, 0))) (fun h => h) (R := 1) (duties_b_later P c)) $$ [HaB] with Hz
  · isplitr; · iapply (bCell_ix P K c); iexact HI
    iexact HaB
  imodintro
  iapply Hk $$ [HsA HA HsB HB Hp HzA HzB Hz] [HO]
  · unfold finish
    isplitl [Hp]; · iexists _; iexact Hp
    isplitl [HsA HA]
    · iapply (lane_join false c)
      isplitl [HsA]; · iapply (show keep (F := F) 30 c ⊢ free (F := F) false 0 c from Entails.of_eq (if_neg (by decide))); iexact HsA
      iapply (free_hold false 1 c); iexact HA
    isplitl [HsB HB]
    · iapply (lane_join true c)
      isplitl [HsB]; · iexact HsB
      iapply (free_hold true 1 c); iexact HB
    isplitl [HzA]; · iexact HzA
    isplitl [HzB]; · iexact HzB
    iexact Hz
  · rw [owed_end]; iexact HO
  iexact Hout

/-- The body. -/
theorem wp_body (K : Dev nD × Fin 9 → ℕ) (c : Dev nD) (x : StgX F) (w : StgW F) (hP : P c = k0_pay2 x w) (p : Part F) (f : Out F) (W : Waits sig ℕ)
    (Q : PUnit → sProp 𝕄) :
    iprop((invs P K ∗ levAts L lv) ∗ begin (F := F) c ∗ owes (c : Thread nD τ) (owed₀ c) W ∗ lane (F := F) false c ∗ lane (F := F) true c ∗ part c p ∗ stgX c x ∗ stgW c w
        ∗ out c f ∗ (finish (F := F) c -∗ (∃ W', owes (c : Thread nD τ) 0 W') -∗ stgX c x -∗ stgW c w -∗ out c (outOver P c f) -∗ Q ⟨⟩))
      ⊢ wpc c steps Q := by
  have e : wpc c (steps (F := F)) Q = wpc c prologue fun d => wpc c (hops d 30 0 rfl) Q := by
    unfold wpc steps; rw [wp_bind]
  rw [e]
  iintro ⟨⟨#HI, #Hlev⟩, Hb, HO, HlA, HlB, Hp, Hx, Hw, Hout, Hk⟩
  iapply (wp_prologue P K c x w hP p W)
  isplitr; · isplitr; · iexact HI
             iexact Hlev
  isplitl [Hb]; · iexact Hb
  isplitl [HO]; · iexact HO
  isplitl [HlA]; · iexact HlA
  isplitl [HlB]; · iexact HlB
  isplitl [Hp]; · iexact Hp
  isplitl [Hx]; · iexact Hx
  isplitl [Hw]; · iexact Hw
  iintro Hb HaB Hx Hw
  iapply (wp_hops P K c Q iprop(out c f ∗ atPos eR (bCell c) 1 ∅ 0
        ∗ (finish (F := F) c -∗ (∃ W', owes (c : Thread nD τ) 0 W') -∗ out c (outOver P c f) -∗ Q ⟨⟩)) (wp_lastHop P K c f Q) 30 0 rfl)
  isplitr; · isplitr; · iexact HI
             iexact Hlev
  isplitl [Hb]; · iexact Hb
  isplitl [Hout]; · iexact Hout
  isplitl [HaB]; · iexact HaB
  iintro Hf HO Hout
  iapply Hk $$ [Hf] [HO] [Hx] [Hw]
  · iexact Hf
  · iexact HO
  · iexact Hx
  · iexact Hw
  iexact Hout

end Cert.Proof

end
-- ==== Proof.Deal.lean ====
/-
  What the launch deals: the cells of the protocol, the tokens of every duty handed to the device that pays it, and the credits.
-/
module

public import proofs.«01_k».proof.Proof.Body

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ RR ℕ

/-! ### The cells -/

theorem csem_injective : Function.Injective csem := by
  intro a b; revert a b; decide

theorem kcell_injective : Function.Injective kcell := by
  rintro ⟨c, k⟩ ⟨d, j⟩ h
  have h1 : c = d := congrArg (fun g : GSem nD τ sig => g.1.1) h
  have h2 : k = j := csem_injective (congrArg Prod.snd h)
  rw [h1, h2]

def ringCells : Finset (GSem nD τ sig) := Finset.univ.map ⟨kcell, kcell_injective⟩

/-! ### The tokens -/

/-- The duties a device pays: its two barrier signals, and per lane and hop the end of its copy at its own side (`false`) and at its
    neighbour's (`true`). -/
abbrev Duty : Type := Bool ⊕ (Bool × Bool × Fin 31)

/-- Where a duty of device `c` is booked. -/
def booked (x : Dev nD × Duty) : GSem nD τ sig × ℕ × Bool := match x.2 with
  | .inl true => (bCell (prv x.1), 0, true)
  | .inl false => (bCell (nxt x.1), 0, false)
  | .inr (z, false, h) => (sCell z x.1 (sl h.val), h.val / 2, false)
  | .inr (z, true, h) => (rCell z (dst z x.1) (sl (h.val + 1)), h.val / 2, false)

/-- Who pays a booked duty, and which of its own it is. -/
def payer (y : GSem nD τ sig × ℕ × Bool) : Dev nD × (Bool ⊕ (Bool × Bool × ℕ)) := match y.1.2 with
  | .reg _ => (if y.2.2 then nxt y.1.1.1 else prv y.1.1.1, .inl y.2.2)
  | .dma q => match role q with
    | some (z, rv, i) => (if rv then org z y.1.1.1 else y.1.1.1, .inr (z, rv, hopOf rv i y.2.1))
    | none => (y.1.1.1, .inl false)

theorem payer_booked (x : Dev nD × Duty) : payer (booked x) = (x.1, x.2.map id fun t => (t.1, t.2.1, t.2.2.val)) := by
  obtain ⟨c, b | ⟨z, rv, h⟩⟩ := x
  · cases b
    · exact Prod.ext (prv_nxt c) rfl
    · exact Prod.ext (nxt_prv c) rfl
  · cases rv
    · show (match role (semAt (sendS z) (sl h.val)) with
        | some (z, rv, i) => (if rv then org z c else c, Sum.inr (z, rv, hopOf rv i (h.val / 2)))
        | none => (c, (.inl false : Bool ⊕ (Bool × Bool × ℕ)))) = _
      rw [role_send]
      exact Prod.ext rfl (congrArg (fun k => Sum.inr (z, false, k)) (hopOf_send h.val))
    · show (match role (semAt (recvS z) (sl (h.val + 1))) with
        | some (z', rv, i) => (if rv then org z' (dst z c) else dst z c, Sum.inr (z', rv, hopOf rv i (h.val / 2)))
        | none => (dst z c, (.inl false : Bool ⊕ (Bool × Bool × ℕ)))) = _
      rw [role_recv]
      exact Prod.ext (org_dst z c) (congrArg (fun k => Sum.inr (z, true, k)) (hopOf_recv h.val))

theorem booked_injective : Function.Injective booked := by
  intro x y h
  have e := congrArg payer h
  rw [payer_booked, payer_booked] at e
  obtain ⟨c, a⟩ := x
  obtain ⟨d, b⟩ := y
  have h1 : c = d := congrArg Prod.fst e
  have h2 := congrArg Prod.snd e
  subst h1
  refine Prod.ext rfl ?_
  rcases a with a | ⟨z, rv, k⟩ <;> rcases b with b | ⟨z', rv', k'⟩
  · exact congrArg Sum.inl (Sum.inl.inj h2)
  · exact absurd h2 (fun h => by cases h)
  · exact absurd h2 (fun h => by cases h)
  · have h3 := Sum.inr.inj h2
    have e1 : z = z' := congrArg Prod.fst h3
    have e2 : rv = rv' := congrArg (fun t : Bool × Bool × ℕ => t.2.1) h3
    have e3 : k = k' := Fin.ext (congrArg (fun t : Bool × Bool × ℕ => t.2.2) h3)
    rw [e1, e2, e3]

def ringToks : Finset (GSem nD τ sig × ℕ × Bool) := Finset.univ.map ⟨booked, booked_injective⟩

abbrev tokAt (x : Dev nD × Duty) : sProp 𝕄 := dutyTok eR (booked x).1 (booked x).2.1 (booked x).2.2

/-- A device's tokens. -/
def myToks (c : Dev nD) : sProp 𝕄 := bigSep Finset.univ fun y : Duty => tokAt (F := F) (c, y)

omit [FloatOps F] in
/-- One copy's two tokens. -/
theorem univ_bool (Φ : Bool → sProp 𝕄) : bigSep Finset.univ Φ = iprop(Φ false ∗ Φ true) := by
  rw [bigSep_univ_eq_bigSepL [false, true] (by decide) (by decide)]; rfl

theorem univ_hops : (Finset.univ : Finset (Fin 31)).map Fin.valEmbedding = Finset.Ico 0 31 := by decide

/-- The two tokens of the copy of hop `h` along lane `z`. -/
def pair (z : Bool) (h : ℕ) (c : Dev nD) : sProp 𝕄 :=
  iprop(dutyTok eR (sCell z c (sl h)) (h / 2) false ∗ dutyTok eR (rCell z (dst z c) (sl (h + 1))) (h / 2) false)

omit [FloatOps F] in
theorem myToks_split (c : Dev nD) : (myToks c : sProp 𝕄)
    = iprop((dutyTok eR (bCell (nxt c)) 0 false ∗ dutyTok eR (bCell (prv c)) 0 true)
        ∗ (bigSep (Finset.Ico 0 31) fun h => pair (F := F) false h c) ∗ bigSep (Finset.Ico 0 31) fun h => pair (F := F) true h c) := by
  have e (z : Bool) : (bigSep Finset.univ fun y : Bool × Fin 31 => tokAt (F := F) (c, .inr (z, y))) = bigSep (Finset.Ico 0 31) fun h => pair (F := F) z h c := by
    rw [bigSep_univ_prod, univ_bool, ← univ_hops, bigSep_map, ← bigSep_sep']
    rfl
  unfold myToks
  rw [bigSep_univ_sum, univ_bool, bigSep_univ_prod, univ_bool, e, e]
  rfl

/-! ### The credits -/

omit [FloatOps F] in
theorem cred_due (z : Bool) (h : ℕ) (c : Dev nD) : (Pipeline.launchCred (due z h) c : sProp 𝕄) ⊢ cred (tallyAt (rCell z c (sl (h + 1))) h nU) :=
  Pipeline.launchCred_tallyAt (.dma (semAt (recvS z) (sl (h + 1)))) (dst z) (org z) (dst_org z) (org_dst z) h nU c

/-- A device's credits. -/
def myCred (c : Dev nD) : sProp 𝕄 :=
  iprop((bigSep (Finset.Ico 0 31) fun h => iprop(cred (tallyAt (rCell true c (sl (h + 1))) h nU) ∗ cred (tallyAt (rCell false c (sl (h + 1))) h nU)))
    ∗ cred (tallyAt (bCell c) 0 2))

omit [FloatOps F] in
theorem creds (c : Dev nD) : (Pipeline.launchCred owed₀ c : sProp 𝕄) ⊢ myCred c := by
  have e : (Pipeline.launchCred owed₀ c : sProp 𝕄) = iprop((Pipeline.launchCred (owed 0) c ∗ Pipeline.launchCred (fun d => tallyAt (bCell (nxt d)) 0 1) c)
      ∗ Pipeline.launchCred (fun d => tallyAt (bCell (prv d)) 0 1) c) := by
    rw [← Pipeline.launchCred_add, ← Pipeline.launchCred_add]; rfl
  have e2 : (Pipeline.launchCred (owed 0) c : sProp 𝕄) = bigSep (Finset.Ico 0 31) fun h => iprop(Pipeline.launchCred (due true h) c ∗ Pipeline.launchCred (due false h) c) := by
    rw [show (owed 0 : Dev nD → CellTallies nD τ sig ℕ) = fun d => ∑ h ∈ Finset.Ico 0 31, (due true h d + due false h d) from rfl,
      Pipeline.launchCred_sum (Finset.Ico 0 31) (fun h d => due true h d + due false h d)]
    exact bigSep_congr fun h _ => Pipeline.launchCred_add _ _ c
  rw [e, e2]
  unfold myCred
  iintro ⟨⟨H, Hn⟩, Hp⟩
  isplitl [H]
  · iapply (show (bigSep (Finset.Ico 0 31) fun h => iprop(Pipeline.launchCred (due true h) c ∗ Pipeline.launchCred (due false h) c) : sProp 𝕄)
        ⊢ bigSep (Finset.Ico 0 31) fun h => iprop(cred (tallyAt (rCell true c (sl (h + 1))) h nU) ∗ cred (tallyAt (rCell false c (sl (h + 1))) h nU)) from
      bigSep_mono fun h _ => BIClass.sep_mono (cred_due (F := F) true h c) (cred_due (F := F) false h c))
    iexact H
  ihave Hn := (Pipeline.launchCred_tallyAt (.reg barS) nxt prv nxt_prv prv_nxt 0 1 c) $$ Hn
  ihave Hp := (Pipeline.launchCred_tallyAt (.reg barS) prv nxt prv_nxt nxt_prv 0 1 c) $$ Hp
  rw [show (tallyAt (bCell c) 0 2 : CellTallies nD τ sig ℕ) = tallyAt (bCell c) 0 1 + tallyAt (bCell c) 0 1 from (tallyAt_add (bCell c) 0 1 1).symm]
  iapply (cred_add (tallyAt (bCell c) 0 1 : CellTallies nD τ sig ℕ) (tallyAt (bCell c) 0 1)).2
  isplitl [Hn]; · iexact Hn
  iexact Hp

omit [FloatOps F] in
theorem toks_intro (h : ℕ) (c : Dev nD) :
    iprop((pair (F := F) false h c ∗ pair (F := F) true h c)
        ∗ cred (tallyAt (rCell true c (sl (h + 1))) h nU) ∗ cred (tallyAt (rCell false c (sl (h + 1))) h nU))
      ⊢ iprop(toks (F := F) false h c ∗ toks (F := F) true h c) := by
  unfold pair toks
  iintro ⟨⟨⟨H1, H2⟩, H3, H4⟩, H5, H6⟩
  isplitl [H1 H2 H6]
  · isplitl [H1]; · iexact H1
    isplitl [H2]; · iexact H2
    iexact H6
  isplitl [H3]; · iexact H3
  isplitl [H4]; · iexact H4
  iexact H5

omit [FloatOps F] in
theorem toksFrom_intro (c : Dev nD) :
    iprop(((bigSep (Finset.Ico 0 31) fun h => pair (F := F) false h c) ∗ bigSep (Finset.Ico 0 31) fun h => pair (F := F) true h c)
      ∗ bigSep (Finset.Ico 0 31) fun h => iprop(cred (tallyAt (rCell true c (sl (h + 1))) h nU) ∗ cred (tallyAt (rCell false c (sl (h + 1))) h nU)))
      ⊢ toksFrom (F := F) 0 c := by
  unfold toksFrom
  rw [← bigSep_sep', ← bigSep_sep']
  exact bigSep_mono fun h _ => toks_intro h c

/-! ### Positions -/

/-- Every cell is at round 0. -/
def marks : sProp 𝕄 := bigSep Finset.univ fun x : Dev nD × Fin 9 => reached eR (kcell x) 0

omit [FloatOps F] in
instance marks_persistent : BI.Persistent (marks : sProp 𝕄) := by unfold marks; infer_instance

omit [FloatOps F] in
theorem mark_of (x : Dev nD × Fin 9) : (marks : sProp 𝕄) ⊢ reached eR (kcell x) 0 := bigSep_elim (Finset.mem_univ x)

/-- A device's own positions. -/
def spots (c : Dev nD) : sProp 𝕄 := bigSep Finset.univ fun k : Fin 9 => atPos eR (kcell (c, k)) 0 ∅ 0

omit [FloatOps F] in
theorem univ_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]; rfl

omit [FloatOps F] in
/-- All a device needs to start. -/
theorem begin_intro (c : Dev nD) : iprop(marks (F := F) ∗ spots (F := F) c ∗ myToks (F := F) c ∗ myCred (F := F) c) ⊢ begin (F := F) c := by
  unfold spots
  rw [univ_nine, myToks_split]
  unfold begin bar pos at0 myCred
  iintro ⟨#HM, ⟨H0, H1, H2, H3, H4, H5, H6, H7, H8⟩, ⟨⟨Hbn, Hbp⟩, Htk⟩, Hcr, Hcb⟩
  isplitl [H0 Hbn Hbp Hcb]
  · isplitl [H0]; · iexact H0
    isplitl [Hbp]
    · isplitl [Hbp]; · iexact Hbp
      iapply (mark_of (F := F) (prv c, 0)); iexact HM
    isplitl [Hbn]
    · isplitl [Hbn]; · iexact Hbn
      iapply (mark_of (F := F) (nxt c, 0)); iexact HM
    iexact Hcb
  isplitl [Htk Hcr]
  · iapply (toksFrom_intro (F := F) c)
    isplitl [Htk]; · iexact Htk
    iexact Hcr
  isplitl [H1 H2 H3 H4]
  · isplitl [H1]
    · isplitl [H1]; · iexact H1
      iapply (mark_of (F := F) (c, 1)); iexact HM
    isplitl [H4]
    · isplitl [H4]; · iexact H4
      iapply (mark_of (F := F) (c, 4)); iexact HM
    isplitl [H2]
    · isplitl [H2]; · iexact H2
      iapply (mark_of (F := F) (c, 2)); iexact HM
    isplitl [H3]; · iexact H3
    iapply (mark_of (F := F) (c, 3)); iexact HM
  isplitl [H5]
  · isplitl [H5]; · iexact H5
    iapply (mark_of (F := F) (c, 5)); iexact HM
  isplitl [H8]
  · isplitl [H8]; · iexact H8
    iapply (mark_of (F := F) (c, 8)); iexact HM
  isplitl [H6]
  · isplitl [H6]; · iexact H6
    iapply (mark_of (F := F) (c, 6)); iexact HM
  isplitl [H7]; · iexact H7
  iapply (mark_of (F := F) (c, 7)); iexact HM

end Cert.Proof

end
-- ==== Proof.Run.lean ====
/-
  The run of the whole program: each device's body under the pipeline, the launch, and what every array holds at the end.
-/
module

public import proofs.«01_k».proof.Proof.Deal
public import Idealize.ShloMosaic.Lib.Pipeline.CollectiveSegs

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ RR ℕ

/-! ### The result block -/

/-- Row `a` of a half block, column of `i`. -/
def inHalf (a : Fin 32) (i : S64x2048.Idx) : S32x2048.Idx
  | ⟨0, _⟩ => a
  | ⟨1, _⟩ => i 1

theorem row_lt (i : S64x2048.Idx) : (i 0).val < 64 := (i 0).isLt

/-- Two halves put together. -/
def glue (A B : FVec F S32x2048 .f32) : Out F := fun i =>
  if h : (i 0).val < 32 then A (inHalf ⟨(i 0).val, h⟩ i) else B (inHalf ⟨(i 0).val - 32, by have := row_lt i; omega⟩ i)

omit [FloatOps F] in
theorem half_emb (j : Fin 2) (i : S64x2048.Idx) (a : Fin 32) (h : (i 0).val = 32 * j.val + a.val) : (halfR j).emb (inHalf a i) = i := by
  funext b
  apply Fin.ext
  rw [Rect.emb_apply]
  fin_cases b
  · show 32 * j.val + 1 * a.val = (i 0).val; omega
  · show 0 + 1 * (i 1).val = (i 1).val; omega

omit [FloatOps F] in
theorem putHalf_in (j : Fin 2) (f : Out F) (v : FVec F S32x2048 .f32) (i : S64x2048.Idx) (a : Fin 32) (h : (i 0).val = 32 * j.val + a.val) :
    putHalf j f v i = v (inHalf a i) := by
  have e : (outM.access (halfR j)).emb (inHalf a i) = i := half_emb j i a h
  have w := View.write_emb_of_mem (v := outM.access (halfR j)) (Val := Elt F) f v (Finset.mem_univ (inHalf a i))
  rw [e] at w
  exact w

omit [FloatOps F] in
theorem putHalf_off (f : Out F) (v : FVec F S32x2048 .f32) (i : S64x2048.Idx) (h : (i 0).val < 32) : putHalf 1 f v i = f i := by
  refine View.write_of_not_mem (v := outM.access (halfR 1)) (Val := Elt F) f v Finset.univ fun hm => ?_
  obtain ⟨x, -, hx⟩ := Finset.mem_map.mp hm
  have := congrArg (fun k : S64x2048.Idx => (k 0).val) hx
  have e : ((outM.access (halfR 1)).emb x 0).val = 32 * 1 + 1 * (x 0).val := rfl
  have : 32 * 1 + 1 * (x 0).val = (i 0).val := e ▸ this
  omega

variable (P : Dev nD → Part F)

/-- What a device's output block holds at the end, whatever it held before. -/
theorem outOver_eq (c : Dev nD) (f : Out F) : outOver P c f = glue (outA P c) (outB P c) := by
  funext i
  unfold glue
  split
  · next h => rw [outOver, putHalf_off _ _ _ h, putHalf_in 0 f _ i ⟨(i 0).val, h⟩ (by show (i 0).val = 32 * 0 + (i 0).val; omega)]
  · next h => rw [outOver, putHalf_in 1 _ _ i ⟨(i 0).val - 32, by have := row_lt i; omega⟩ (by show (i 0).val = 32 * 1 + ((i 0).val - 32); omega)]

/-! ### The data of the run -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- A device's two input blocks. -/
def xOf (c : Dev nD) : StgX F := (win0_0.blk (0 : Fin 1)).view.read (Elt F) ((s₀ m ρ).mem ((c : Thread nD τ).loc main_arg0))
def wOf (c : Dev nD) : StgW F := (win0_1.blk (0 : Fin 1)).view.read (Elt F) ((s₀ m ρ).mem ((c : Thread nD τ).loc main_arg1))

/-- Its partial product. -/
def prod (c : Dev nD) : Part F := k0_pay2 (xOf m ρ c) (wOf m ρ c)

/-- Its result block. -/
def outAt (c : Dev nD) : Out F := glue (outA (prod m ρ) c) (outB (prod m ρ) c)

/-- What the launch leaves with a device. -/
def dealt (c : Dev nD) : sProp 𝕄 :=
  iprop(∃ K, (invs (prod m ρ) K ∗ marks (F := F)) ∗ spots (F := F) c ∗ myToks (F := F) c)

def start₀ (c : Dev nD) : sProp 𝕄 := iprop(dealt m ρ c ∗ myCred (F := F) c ∗ levAts L lv)

def Φ₀ (c : Dev nD) : sProp 𝕄 := iprop(start₀ m ρ c ∗ (∃ p : Part F, part c p) ∗ lane (F := F) false c ∗ lane (F := F) true c)

theorem one_point : cfg0.N = 1 := by decide
def t₀ : Fin cfg0.N := ⟨0, by rw [one_point]; decide⟩
theorem is_t₀ (t : Fin cfg0.N) : t = t₀ := by
  obtain ⟨t, ht⟩ := t; have := one_point; exact Fin.ext (by simp only [t₀]; omega)

def dats (_ : Fin 1) (c : Dev nD) : Dat τ (Elt F) ℕ ℕ RR ℕ cfg0 c where
  A w := (s₀ m ρ).mem ((cfg0.win w).arr.view.loc (c : Thread nD τ))
  after w _ := match w with
    | ⟨0, _⟩ => xOf m ρ c
    | ⟨1, _⟩ => wOf m ρ c
    | ⟨2, _⟩ => outAt m ρ c
  Φ t := match t with
    | ⟨0, _⟩ => Φ₀ m ρ c
    | ⟨_ + 1, _⟩ => finish (F := F) c
  q _ := fullShare
  owed t := match t with
    | ⟨0, _⟩ => owed₀ c
    | ⟨_ + 1, _⟩ => 0

theorem three_windows (Φ : Fin cfg0.W → sProp 𝕄) : bigSep Finset.univ Φ = iprop(Φ (0 : Fin 3) ∗ Φ (1 : Fin 3) ∗ Φ (2 : Fin 3)) := bigSep_W0 Φ

omit [FloatOps F] in
theorem owns_whole (c : Dev nD) (b : Ref sig .tc) (X : b.ty.Contents (Elt F)) :
    (owns (Ix := ℕ) (Name := ℕ) (U := RR) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
def staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pre (c : Dev nD) : sProp 𝕄 :=
  iprop(Φ₀ m ρ c ∗ (dats m ρ 0 c).owesAt 0 t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))
def post (c : Dev nD) : sProp 𝕄 :=
  iprop(finish (F := F) c ∗ (dats m ρ 0 c).owesAt 0 t₀.succ
    ∗ staged c cc0_stg0_0 (xOf m ρ c) ∗ staged c cc0_stg1_0 (wOf m ρ c) ∗ staged c cc0_stg2_0 (outAt m ρ c))

theorem body_ok (c : Dev nD) : pre m ρ c ⊢ wpc c steps fun _ => post m ρ c := by
  unfold pre Φ₀ start₀ dealt
  iintro ⟨⟨⟨⟨%K, ⟨#HI, #HM⟩, Hsp, Htk⟩, Hcr, #Hlev⟩, ⟨%p, Hp⟩, HlA, HlB⟩, Ho, ⟨%d0, Hx⟩, ⟨%d1, Hw⟩, ⟨%d2, Hout⟩⟩
  unfold Dat.owesAt Pipeline.owesWithin staged
  icases Ho with ⟨%W, %hW, HO⟩
  icases Hx with ⟨%fx, %hx, Hx⟩
  icases Hw with ⟨%fw, %hw, Hw⟩
  icases Hout with ⟨%fo, %ho, Hout⟩
  have ex : fx = xOf m ρ c := by rw [hx]; unfold Dat.before; rw [if_pos (fetch0_0 t₀)]; rfl
  have ew : fw = wOf m ρ c := by rw [hw]; unfold Dat.before; rw [if_pos (fetch0_1 t₀)]; rfl
  subst ex ew
  iapply (wp_body (prod m ρ) K c (xOf m ρ c) (wOf m ρ c) rfl p fo W)
  isplitr; · isplitr; · iexact HI
             iexact Hlev
  isplitl [Hsp Htk Hcr]
  · iapply (begin_intro (F := F) c)
    isplitr; · iexact HM
    isplitl [Hsp]; · iexact Hsp
    isplitl [Htk]; · iexact Htk
    iexact Hcr
  isplitl [HO]; · iexact HO
  isplitl [HlA]; · iexact HlA
  isplitl [HlB]; · iexact HlB
  isplitl [Hp]; · iexact Hp
  isplitl [Hx]; · unfold stgX; iexact Hx
  isplitl [Hw]; · unfold stgW; iexact Hw
  isplitl [Hout]; · unfold out; iexact Hout
  iintro Hf ⟨%W', HO⟩ Hx Hw Hout
  rw [outOver_eq]
  unfold post Dat.owesAt Pipeline.owesWithin staged
  rw [show (dats m ρ 0 c).owed t₀.succ = 0 from rfl]
  isplitl [Hf]; · iexact Hf
  isplitl [HO]
  · iexists W'
    isplitr; · ipureintro; exact fun _ _ => Or.inl trivial
    iexact HO
  isplitl [Hx]
  · iexists _; isplitr; · (ipureintro; rfl)
    unfold stgX; iexact Hx
  isplitl [Hw]
  · iexists _; isplitr; · (ipureintro; rfl)
    unfold stgW; iexact Hw
  iexists _; isplitr; · (ipureintro; rfl)
  unfold out; iexact Hout

set_option maxRecDepth 100000 in
theorem body_obligation (c : Dev nD) : BodyObligation (dats (F := F) m ρ 0 c) (defs₀ (F := F)) Variants.none 0 Set.univ := fun t => by
  rw [is_t₀ t]
  rw [three_windows, three_windows]
  simp only [owns_whole]
  show pre m ρ c ⊢ wp frame (wpE (defs₀ (F := F)) Variants.none c none) Set.univ (bodyAt0 (F := F) t0_0) (fun _ => post m ρ c)
  rw [body_eq]
  exact body_ok m ρ c

/-! ### The launch -/

/-- The kernel's own semaphores: all of the protocol's but the barrier's. -/
abbrev osem : Fin 8 → SemLoc sig := fun k => csem k.succ

theorem ownSemFacts : Pipeline.OwnSemFacts cfg0.spec osem := by decide

theorem share_full (c : Dev nD) (w : Fin cfg0.W) : (dats m ρ 0 c).share w = fullShare := by unfold Dat.share; split <;> rfl

def u₀ : RR := (initOf (Pipeline.cells cfgs cellOf_inj) (Pipeline.launchToks cfgs cellOf_inj), initOf ringCells ringToks)

/-- What the launch element deals a device. -/
def given (c : Dev nD) : sProp 𝕄 :=
  iprop((bigSep Finset.univ fun k : Fin 9 => roundState eR (sched (prod m ρ)) (kcell (c, k)) 0)
    ∗ (spots (F := F) c ∗ bigSep Finset.univ fun k : Fin 9 => reached eR (kcell (c, k)) 0) ∗ myToks (F := F) c)

theorem fund_ring : BI.own (eR (initOf ringCells ringToks)) ⊢ (|==> bigSep Finset.univ (given m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok eR x.1 x.2.1 x.2.2 : sProp 𝕄)) = bigSep Finset.univ fun c : Dev nD => myToks c := by
    unfold ringToks; rw [bigSep_map, bigSep_univ_prod]; rfl
  iintro HX
  imod (Rounds.fund eR (sched (prod m ρ)) ringCells ringToks) $$ HX with ⟨Hst, Hr, Hat, Htok⟩
  imodintro
  ihave Hst := (Entails.of_eq (hX fun g => roundState eR (sched (prod m ρ)) g 0)) $$ Hst
  ihave Hat := (Entails.of_eq (hX fun g => atPos eR g 0 ∅ 0)) $$ Hat
  ihave Hr := (Entails.of_eq (hX fun g => reached eR g 0)) $$ Hr
  ihave Htok := (Entails.of_eq hT) $$ Htok
  unfold given spots; simp only [bigSep_sep']
  isplitl [Hst]; · iexact Hst
  isplitl [Hat Hr]
  · isplitl [Hat] <;> iassumption
  iexact Htok

omit [FloatOps F] in
theorem own_sems (c : Dev nD) : (Pipeline.ownSems0 (Ix := ℕ) (Name := ℕ) (U := RR) (Lvl := ℕ) (Val := Elt F) (τ := τ) osem c : sProp 𝕄)
    = iprop(semVal (sCell false c 0) 0 ∗ semVal (sCell false c 1) 0 ∗ semVal (rCell false c 0) 0 ∗ semVal (rCell false c 1) 0
        ∗ semVal (sCell true c 0) 0 ∗ semVal (sCell true c 1) 0 ∗ semVal (rCell true c 0) 0 ∗ semVal (rCell true c 1) 0) := by
  rw [Pipeline.ownSems0_eq_of_list c osem [0, 1, 2, 3, 4, 5, 6, 7] (by decide) (by decide)]; rfl
omit [FloatOps F] in
theorem run_sems (c : Dev nD) : (unscopedSems0 c : sProp 𝕄) = semVal (bCell c) 0 := by
  unfold unscopedSems0; rw [bigSep_eq_bigSepL_of_eq [SemLoc.reg barS] (by decide) (by decide)]; rfl

omit [FloatOps F] in
theorem all_sems (c : Dev nD) :
    iprop(Pipeline.ownSems0 (Ix := ℕ) (Name := ℕ) (U := RR) (Lvl := ℕ) (Val := Elt F) (τ := τ) osem c ∗ unscopedSems0 c)
      ⊢ (bigSep Finset.univ fun k : Fin 9 => semVal (kcell (c, k)) 0 : sProp 𝕄) := by
  rw [own_sems, run_sems, univ_nine]
  iintro ⟨H, HB⟩
  isplitl [HB]; · iexact HB
  iexact H

theorem alloc (c : Dev nD) :
    iprop(Pipeline.ownSems0 (Ix := ℕ) (Name := ℕ) (U := RR) (Lvl := ℕ) (Val := Elt F) (τ := τ) osem c ∗ unscopedSems0 c ∗ given m ρ c)
      ⊢ |={Set.univ}=> iprop((bigSep Finset.univ fun k => iprop(∃ κ : ℕ, cellInv eR (sched (prod m ρ)) κ (kcell (c, k))))
          ∗ (spots (F := F) c ∗ bigSep Finset.univ fun k : Fin 9 => reached eR (kcell (c, k)) 0) ∗ myToks (F := F) c) := by
  unfold given
  iintro ⟨Hos, Hus, Hst, Hat, Htok⟩
  ihave Hv := (all_sems (F := F) c) $$ [Hos Hus]
  · isplitl [Hos] <;> iassumption
  imod (show iprop((bigSep Finset.univ fun k : Fin 9 => semVal (kcell (c, k)) 0) ∗ bigSep Finset.univ fun k : Fin 9 => roundState eR (sched (prod m ρ)) (kcell (c, k)) 0)
      ⊢ (|={Set.univ}=> bigSep Finset.univ fun k => iprop(∃ κ : ℕ, cellInv eR (sched (prod m ρ)) κ (kcell (c, k))) : sProp 𝕄) from by
        rw [← bigSep_sep']
        exact (bigSep_mono fun k _ => (Rounds.body_intro eR (sched (prod m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance invs_marks_persistent (K : Dev nD × Fin 9 → ℕ) : BI.Persistent (iprop(invs (prod m ρ) K ∗ marks (F := F)) : sProp 𝕄) := by infer_instance

theorem dealt_intro (K : Dev nD × Fin 9 → ℕ) (c : Dev nD) :
    iprop((invs (prod m ρ) K ∗ marks (F := F)) ∗ spots (F := F) c ∗ myToks (F := F) c) ⊢ dealt m ρ c := by
  unfold dealt; iintro H; iexists K; iexact H

theorem regroup :
    (bigSep Finset.univ fun c : Dev nD => iprop((bigSep Finset.univ fun k => iprop(∃ κ : ℕ, cellInv eR (sched (prod m ρ)) κ (kcell (c, k))))
          ∗ (spots (F := F) c ∗ bigSep Finset.univ fun k : Fin 9 => reached eR (kcell (c, k)) 0) ∗ myToks (F := F) c) : sProp 𝕄)
      ⊢ bigSep Finset.univ (dealt m ρ) := by
  rw [bigSep_sep', bigSep_sep', bigSep_sep', ← bigSep_univ_prod (fun x : Dev nD × Fin 9 => iprop(∃ κ : ℕ, cellInv eR (sched (prod m ρ)) κ (kcell x))),
    ← bigSep_univ_prod (fun x : Dev nD × Fin 9 => (reached eR (kcell x) 0 : sProp 𝕄))]
  iintro ⟨HI, ⟨Hsp, #HR⟩, Htok⟩
  ihave HK := (BI.bigSep_exists_pi Finset.univ (fun (x : Dev nD × Fin 9) (κ : ℕ) => (cellInv eR (sched (prod m ρ)) κ (kcell x) : sProp 𝕄))) $$ HI
  icases HK with ⟨%K, #HI⟩
  iapply (show iprop((invs (prod m ρ) K ∗ marks (F := F)) ∗ bigSep Finset.univ fun c => iprop(spots (F := F) c ∗ myToks (F := F) c)) ⊢ bigSep Finset.univ (dealt m ρ) from
    (sep_mono_left (BI.bigSep_of_persistent Finset.univ _)).trans (by rw [← bigSep_sep']; exact bigSep_mono fun c _ => dealt_intro m ρ K c))
  isplitr
  · isplitr
    · unfold invs; iexact HI
    · unfold marks; iexact HR
  · rw [bigSep_sep']
    isplitl [Hsp]; · iexact Hsp
    iexact Htok

theorem glob : (bigSep Finset.univ fun c => iprop(Pipeline.ownSems0 (Ix := ℕ) (Name := ℕ) (U := RR) (Lvl := ℕ) (Val := Elt F) (τ := τ) osem c ∗ unscopedSems0 c ∗ given m ρ c) : sProp 𝕄)
    ⊢ |={Set.univ}=> bigSep Finset.univ (dealt m ρ) :=
  ((bigSep_mono fun c _ => alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m ρ c)
      ⊢ |={Set.univ}=> iprop(start₀ m ρ c ∗ emp) := by
  iintro ⟨-, Hlev, Hcr, -, HG⟩
  ihave Hc := (creds (F := F) c) $$ Hcr
  imodintro
  unfold start₀
  isplitl
  · isplitl [HG]; · iexact HG
    isplitl [Hc]; · iexact Hc
    iexact Hlev
  · iempintro

theorem enter (c : Dev nD) :
    iprop(start₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ part lane
  iintro ⟨Hs, -, ⟨%f, H0⟩, ⟨%g, H1⟩, ⟨%h, H2⟩⟩
  isplitl [Hs]; · iexact Hs
  isplitl [H0]; · iexists f; iexact H0
  isplitl [H1]; · iexists g; iexact H1
  iexists h; iexact H2

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish (F := F) c from rfl, scopedRest0_eq, own_sems, run_sems]
  unfold finish part lane zero
  iintro ⟨⟨%f, H0⟩, ⟨%g, H1⟩, ⟨%h, H2⟩, ⟨A1, A2, A3, A4⟩, ⟨B1, B2, B3, B4⟩, HB⟩
  isplitl [HB]; · iexact HB
  isplitl [A1 A2 A3 A4 B1 B2 B3 B4]
  · isplitl [A1]; · iexact A1
    isplitl [A2]; · iexact A2
    isplitl [A3]; · iexact A3
    isplitl [A4]; · iexact A4
    isplitl [B1]; · iexact B1
    isplitl [B2]; · iexact B2
    isplitl [B3]; · iexact B3
    iexact B4
  isplitl [H0]; · iexists f; iexact H0
  isplitl [H1]; · iexists g; iexact H1
  iexists h; iexact H2

theorem waits (c : Dev nD) : (levAts L lv : sProp 𝕄) ⊢ Pipeline.cellsWaits cfgs (dats m ρ) 0 0 c :=
  Pipeline.cellsWaits_intro cfgs (dats m ρ) 0 0 c fun w s t =>
    mayWait (b := 0) c _ 0 _ (by
      rcases t with ⟨_ | _, ht⟩
      · exact above_owed₀ c
      · exact above_zero 0) (by decide) (by fin_cases w <;> fin_cases s <;> exact Nat.le_refl 0)

/-! ### The run -/

/-- What array `w` of device `c` holds at the end. -/
def finalOf (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalOf m ρ c w

set_option maxRecDepth 100000 in
/-- From any memory with the semaphores at zero every run ends, with the arrays as computed and every semaphore at zero again. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) eP defs₀ Variants.none m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := given m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start₀ m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold what they held. -/
theorem final_x (c : Dev nD) : finalOf m ρ c (0 : Fin 3) = (s₀ m ρ).mem (win0_0.arr.view.loc (c : Thread nD τ)) :=
  (dats (F := F) m ρ 0 c).arrAt_in (0 : Fin 3) rfl _
theorem final_w (c : Dev nD) : finalOf m ρ c (1 : Fin 3) = (s₀ m ρ).mem (win0_1.arr.view.loc (c : Thread nD τ)) :=
  (dats (F := F) m ρ 0 c).arrAt_in (1 : Fin 3) rfl _

end Cert.Proof

end
-- ==== Proof.Same.lean ====
/-
  The kernel and its idealization are one text: at the same float values they are the same program.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

theorem body_same : Cert.Kernel.cc0_body (F := F) = Cert.KernelIdeal.cc0_body (F := F) := rfl

theorem table_same : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    dsimp only
    rw [body_same]

theorem defs_same : Cert.Kernel.defs (F := F) = Cert.KernelIdeal.defs (F := F) :=
  congrArg (Pipeline.defs Cert.KernelIdeal.pcfgs) table_same

end Cert.Proof

end
-- ==== Proof.Sum.lean ====
/-
  What the messages carry, over the extended reals: after hop `h` the sum of `h + 1` devices' rows, and at the end the sum of all of them.
-/
module

public import proofs.«01_k».proof.Proof.Transfer
public import Idealize.ShloMosaic.PureOps.Ideal
public import Idealize.ShloMosaic.Lib.ValueIdx
public import Idealize.ShloMosaic.Lib.ValueLayout

@[expose] public section

noncomputable section

namespace Cert.Proof

open Idealize.ShloMosaic Idealize.ShloMosaic.TcCoe
open Idealize.ShloMosaic.ValueIdx
open Cert.KernelIdeal Cert.KernelIdeal.Gen

/-- Row `r`, column `n` of a partial product (zero past its last row). -/
def cell (p : Part Ideal) (r : ℕ) (n : Fin 2048) : EReal := if h : r < 2048 then p (ix2 ⟨r, h⟩ n) else 0

/-- Thirty-two rows from row `r` on, one by one. -/
theorem rowsOf_apply (p : Part Ideal) (off : Fin 2 → ℕ) (ho : ∀ a, off a + S32x2048.size a ≤ S2048x2048.size a) (r : ℕ) (e : off = ![r, 0])
    (a : Fin 32) (n : Fin 2048) : rowsOf p off ho (ix2 a n) = cell p (r + a.val) n := by
  subst e
  have h : r + 32 ≤ 2048 := ho 0
  unfold cell
  rw [dif_pos (by omega)]
  show p ((Rect.unit (s := S2048x2048) ![r, 0] S32x2048.size ho).emb (ix2 a n)) = _
  congr 1
  funext b
  apply Fin.ext
  rw [Rect.emb_apply]
  fin_cases b
  · show r + 1 * a.val = r + a.val; omega
  · show 0 + 1 * n.val = n.val; omega

/-- The device whose rows travel along lane `z` in hop `h` out of device `c`. -/
def goal (z : Bool) (h : ℕ) (c : Dev nD) : ℕ := if z then (c.val + 1 + h) % 32 else (c.val + 63 - h) % 32

/-- The first row of lane `z`'s half of device `t`'s block. -/
def top (z : Bool) (t : ℕ) : ℕ := 64 * t + if z then 32 else 0

theorem initOff_eq : ∀ (z : Bool) (c : Dev nD), initOff z c = ![top z (goal z 0 c), 0]
  | false, c => by rw [show initOff false c = _ from k0_off1_eq c]; congr 1; simp only [top, goal]; have := c.isLt; simp; omega
  | true, c => by rw [show initOff true c = _ from k0_off2_eq c]; rfl

theorem addOff_eq : ∀ (z : Bool) (c : Dev nD) (h : ℕ) (_ : h < 31), addOff z c h = ![top z (goal z (h + 1) c), 0]
  | false, c, h, hh => by rw [show addOff false c h = _ from k0_off3_eq c ⟨h, hh⟩]; congr 1; simp only [top, goal]; simp
  | true, c, h, hh => by rw [show addOff true c h = _ from k0_off4_eq c ⟨h, hh⟩]; congr 1; simp only [top, goal]; simp; omega

/-- The sender before had the same rows in its last hop. -/
theorem goal_org : ∀ (z : Bool) (h : ℕ) (_ : h < 31) (c : Dev nD), goal z h (org z c) = goal z (h + 1) c
  | false, h, hh, c => by show ((c.val + 31) % 32 + 63 - h) % 32 = (c.val + 63 - (h + 1)) % 32; omega
  | true, h, hh, c => by show ((c.val + 1) % 32 + 1 + h) % 32 = (c.val + 1 + (h + 1)) % 32; omega

/-- After the last hop a device has its own rows. -/
theorem goal_last : ∀ (z : Bool) (c : Dev nD), goal z 31 c = c.val := by decide

theorem pay3_apply (v : Vec Ideal S32x2048 .f32) (a : Fin 32) (n : Fin 2048) : k0_pay3 v (ix3 (0 : Fin 1) a n) = v (ix2 a n) := by
  unfold k0_pay3
  exact shapeCast_ab_1ab_apply _ _ _ _ _

theorem pay83_apply (v : Msg Ideal) (p : Vec Ideal S32x2048 .f32) (a : Fin 32) (n : Fin 2048) :
    k0_pay83 v p (ix2 a n) = (v (ix3 (0 : Fin 1) a n) : EReal) + p (ix2 a n) := by
  unfold k0_pay83
  exact congrArg (· + (p (ix2 a n) : EReal)) (shapeCast_1ab_ab_apply v _ a n)

theorem pay5_apply (v : Msg Ideal) (p : Vec Ideal S32x2048 .f32) (a : Fin 32) (n : Fin 2048) :
    k0_pay5 v p (ix3 (0 : Fin 1) a n) = (v (ix3 (0 : Fin 1) a n) : EReal) + p (ix2 a n) := by
  unfold k0_pay5
  exact (shapeCast_ab_1ab_apply _ _ _ _ _).trans (pay83_apply v p a n)

variable (P : Dev nD → Part Ideal)

theorem addRows_apply (p : Part Ideal) (z : Bool) (c : Dev nD) (h : ℕ) (hh : h < 31) (a : Fin 32) (n : Fin 2048) :
    addRows p z c h (ix2 a n) = cell p (top z (goal z (h + 1) c) + a.val) n := by
  rw [← addRows_eq p z c h hh]
  exact rowsOf_apply _ _ _ _ (addOff_eq z c h hh) a n

/-- One more device's rows, counted along the ring. -/
theorem sum_step (f : Dev nD → EReal) (g : Dev nD → Dev nD) (c : Dev nD) (h : ℕ) :
    (∑ k ∈ Finset.range h, f (g^[k] (g c))) + f c = ∑ k ∈ Finset.range (h + 1), f (g^[k] c) := by
  rw [Finset.sum_range_succ']
  simp only [Function.iterate_succ, Function.comp_apply, Function.iterate_zero, id_eq]

/-- The message of hop `h` is the sum of the rows of the `h + 1` devices it has come through. -/
theorem msg_apply (z : Bool) : ∀ (h : ℕ) (_ : h < 31) (c : Dev nD) (a : Fin 32) (n : Fin 2048),
    (msg P z h c (ix3 (0 : Fin 1) a n) : EReal) = ∑ k ∈ Finset.range (h + 1), cell (P ((org z)^[k] c)) (top z (goal z h c) + a.val) n
  | 0, _, c, a, n => by
    rw [Finset.sum_range_one]
    unfold msg
    rw [pay3_apply]
    exact rowsOf_apply _ _ _ _ (initOff_eq z c) a n
  | h + 1, hh, c, a, n => by
    unfold msg
    rw [pay5_apply, msg_apply z h (by omega) (org z c) a n, addRows_apply _ _ _ _ (by omega), goal_org z h (by omega),
      sum_step (fun d => cell (P d) _ n)]

/-- Going around the ring once meets every device. -/
theorem around : ∀ (z : Bool) (c : Dev nD), (Finset.range 32).image (fun k => (org z)^[k] c) = Finset.univ := by decide +kernel

theorem sum_around (z : Bool) (c : Dev nD) (f : Dev nD → EReal) : ∑ k ∈ Finset.range 32, f ((org z)^[k] c) = ∑ d : Dev nD, f d := by
  rw [← around z c, Finset.sum_image]
  exact Finset.card_image_iff.mp (by rw [around]; rfl)

/-- The rows a device ends with, before the activation: the sum of every device's. -/
theorem total_apply (z : Bool) (c : Dev nD) (a : Fin 32) (n : Fin 2048) :
    k0_pay83 (msg P z 30 (org z c)) (addRows (P c) z c 30) (ix2 a n) = ∑ d : Dev nD, cell (P d) (top z c.val + a.val) n := by
  rw [pay83_apply, msg_apply P z 30 (by decide), addRows_apply _ _ _ _ (by decide), goal_org z 30 (by decide), goal_last,
    sum_step (fun d => cell (P d) _ n), sum_around z c fun d => cell (P d) _ n]

theorem pay1_apply (v : FVec Ideal S32x2048 .f32) (i : S32x2048.Idx) : k0_pay1 v i = (v i : EReal) * Ideal.logistic (v i) := rfl

theorem pay84_eq (v : Msg Ideal) (p : Vec Ideal S32x2048 .f32) : k0_pay84 v p = k0_pay1 (k0_pay83 v p) := rfl

/-- The activation of the sum of every device's row, and column. -/
def act (y : EReal) : EReal := y * Ideal.logistic y

theorem outA_apply (c : Dev nD) (a : Fin 32) (n : Fin 2048) :
    outA P c (ix2 a n) = act (∑ d : Dev nD, cell (P d) (top false c.val + a.val) n) := by
  unfold outA
  rw [pay84_eq, pay1_apply, show prv c = org false c from rfl, total_apply]
  rfl

theorem outB_apply (c : Dev nD) (a : Fin 32) (n : Fin 2048) :
    outB P c (ix2 a n) = act (∑ d : Dev nD, cell (P d) (top true c.val + a.val) n) := by
  unfold outB
  rw [pay1_apply, show nxt c = org true c from rfl, total_apply]
  rfl

end Cert.Proof

end
-- ==== Proof.Silu.lean ====
/-
  The activation, over the extended reals: where the accumulated value lies between −60 and 60, the product of the value and its logistic function is
  the quotient with the clipped exponent.
-/
module

public import Idealize.ShloMosaic.PureOps
public import Idealize.ShloMosaic.PureOps.Ideal
public import Idealize.ShloMosaic.Lib.IdealHost

@[expose] public section

noncomputable section

namespace Cert.Proof

open Idealize.ShloMosaic

/-- The word of sixty. -/
theorem word_sixty : Ideal.ofBits .f32 0x42700000#32 = ((60 : ℝ) : EReal) := by
  simp [Ideal.ofBits, Ideal.ieee]; rw [← EReal.coe_mul]; norm_num

/-- The word of minus sixty. -/
theorem word_minus_sixty : Ideal.ofBits .f32 0xC2700000#32 = -((60 : ℝ) : EReal) := by
  simp [Ideal.ofBits, Ideal.ieee]; rw [← EReal.coe_mul]; norm_num

/-- The exponential is never negative. -/
theorem exp_nonneg (x : EReal) : 0 ≤ Ideal.exp x := by
  induction x using EReal.rec with
  | bot => exact le_refl _
  | top => exact le_top
  | coe r => exact EReal.coe_nonneg.mpr (Real.exp_pos r).le

theorem one_add_exp_ne_zero (x : EReal) : (1 : EReal) + Ideal.exp x ≠ 0 := by
  have h : (1 : EReal) ≤ 1 + Ideal.exp x := le_add_of_nonneg_right (exp_nonneg x)
  exact (lt_of_lt_of_le zero_lt_one h).ne'

/-- A value whose absolute value is at most `b` is left alone by clipping to `[-b, b]`. -/
theorem clip_inside {x b : EReal} (h : max x (-x) ≤ b) : min b (max (-b) x) = x := by
  have h₁ : x ≤ b := (le_max_left _ _).trans h
  have h₂ : -b ≤ x := by
    have := EReal.neg_le_neg_iff.mpr ((le_max_right _ _).trans h)
    rwa [neg_neg] at this
  rw [max_eq_right h₂, min_eq_right h₁]

/-- The value times its logistic function is the value over one plus the exponential of its negative, clipped or not. -/
theorem silu_inside {x b : EReal} (h : max x (-x) ≤ b) :
    x * Ideal.logistic x = Ideal.div x (1 + Ideal.exp (-(min b (max (-b) x)))) := by
  rw [clip_inside h]
  exact Ideal.mul_one_div (one_add_exp_ne_zero _)

end Cert.Proof

end
-- ==== Proof.Value.lean ====
/-
  What the kernel computes, over the extended reals: each device's result is its block of the reference's result, wherever the product lies between −60 and 60.
-/
module

public import proofs.«01_k».proof.Proof.Run
public import proofs.«01_k».proof.Proof.Sum
public import proofs.«01_k».proof.Proof.Silu
public import proofs.«01_k».proof.Proof.Gen.ReferenceIdeal.Run
public import proofs.«01_k».proof.Proof.Gen.On_inside_clip
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Proof

open Idealize.ShloMosaic Idealize.ShloMosaic.TcCoe
open Idealize.ShloMosaic.ValueIdx
open Cert.KernelIdeal Cert.KernelIdeal.Gen

/-! ### The arrays -/

section Arrays

variable {F : FTy → Type} [FloatOps F]
variable (m : (ℓ : Loc nD τ sig) → Buf (Elt F) ℓ) (ρ : Dev nD → PrngReg)

/-- What the body finds in its first window is the first argument. -/
theorem xOf_eq (c : Dev nD) : xOf m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem wOf_eq (c : Dev nD) : wOf m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- The result array ends holding what the body computed. -/
theorem final_out (c : Dev nD) : finalOf m ρ c (2 : Fin 3) = outAt m ρ c := by
  have h : (win0_2.blk (0 : Fin 1)).view.read (Elt F) (finalOf m ρ c (2 : Fin 3)) = outAt m ρ c := by
    unfold finalOf
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

end Arrays

/-! ### The product -/

/-- The whole arguments of the reference. -/
abbrev Whole : Type := FVec Ideal ⟨2, ![2048, 2048]⟩ .bf16

/-- One element of the whole product. -/
def dot (X W : Whole) (r n : Fin 2048) : EReal := ∑ k : Fin 2048, (X (ix2 r k) : EReal) * W (ix2 k n)

/-- Device `d`'s column (or row) `j` in the whole. -/
def share (d : Fin 32) (j : Fin 64) : Fin 2048 := ⟨d.val * 64 + j.val, by omega⟩

/-- A product of a device's blocks, element by element. -/
theorem pay2_apply (x : FVec Ideal S2048x64 .bf16) (w : FVec Ideal S64x2048 .bf16) (r n : Fin 2048) :
    (k0_pay2 (F := Ideal) x w (ix2 r n) : EReal) = ∑ j : Fin 64, (x (ix2 r j) : EReal) * w (ix2 j n) := by
  unfold k0_pay2
  rw [shapeCast_self, shapeCast_self, shapeCast_self]
  refine (Ideal.matmul_plain_apply none x w _ r n).trans ?_
  rw [show (constant (F := Ideal) S2048x2048 .f32 0x00000000#32 (ix2 r n) : EReal) = 0 from Ideal.ofBits_zero_f32, zero_add]

/-- The devices' shares of a sum make up the whole sum. -/
theorem sum_shares (f : Fin 2048 → EReal) : ∑ d : Fin 32, ∑ j : Fin 64, f (share d j) = ∑ k : Fin 2048, f k := by
  rw [← Fintype.sum_prod_type' (f := fun d j => f (share d j)), ← Equiv.sum_comp (finProdFinEquiv (m := 32) (n := 64)) f]
  refine Finset.sum_congr rfl fun p _ => congrArg f (Fin.ext ?_)
  show p.1.val * 64 + p.2.val = p.2.val + 64 * p.1.val
  omega

section Whole

variable (m : (ℓ : Loc nD τ sig) → Buf (Elt Ideal) ℓ) (ρ : Dev nD → PrngReg) (X W : Whole)

/-- The devices' arguments are the blocks of the whole ones. -/
structure Blocks : Prop where
  x : ∀ c : Dev nD, m ((c : Thread nD τ).loc main_arg0) = Layout.block ⟨2, ![2048, 64]⟩ ⟨2, ![2048, 2048]⟩ 1 32 c X
  w : ∀ c : Dev nD, m ((c : Thread nD τ).loc main_arg1) = Layout.block ⟨2, ![64, 2048]⟩ ⟨2, ![2048, 2048]⟩ 0 32 c W

variable {m X W}

theorem prod_cell (h : Blocks m X W) (d : Dev nD) (r n : Fin 2048) :
    cell (prod m ρ d) r.val n = ∑ j : Fin 64, (X (ix2 r (share d j)) : EReal) * W (ix2 (share d j) n) := by
  unfold cell prod
  rw [dif_pos r.isLt, pay2_apply, xOf_eq, wOf_eq, h.x, h.w]
  refine Finset.sum_congr rfl fun j _ => ?_
  rw [Layout.block_apply, Layout.block_apply]
  congr 1
  · congr 1; funext b; apply Fin.ext; fin_cases b <;> rfl
  · congr 1; funext b; apply Fin.ext; fin_cases b <;> rfl

theorem prod_sum (h : Blocks m X W) (r n : Fin 2048) : ∑ d : Dev nD, cell (prod m ρ d) r.val n = dot X W r n := by
  rw [Finset.sum_congr rfl fun d _ => prod_cell ρ h d r n]
  exact sum_shares fun k => (X (ix2 r k) : EReal) * W (ix2 k n)

/-- Row `a` of device `c`'s block in the whole. -/
theorem outAt_apply (h : Blocks m X W) (c : Dev nD) (a : Fin 64) (n : Fin 2048) :
    (outAt m ρ c (ix2 a n) : EReal) = act (dot X W (share c a) n) := by
  rw [← prod_sum ρ h (share c a) n]
  unfold outAt glue
  split
  · next ha =>
    have ha : a.val < 32 := ha
    refine (congrArg (outA (prod m ρ) c) (show _ = ix2 (⟨a.val, ha⟩ : Fin 32) n from eq_ix2 _)).trans ?_
    rw [outA_apply, show top false c.val + a.val = (share c a).val by simp [top, share]; omega]
  · next ha =>
    have ha : ¬ a.val < 32 := ha
    have hb : a.val - 32 < 32 := by omega
    refine (congrArg (outB (prod m ρ) c) (show _ = ix2 (⟨a.val - 32, hb⟩ : Fin 32) n from eq_ix2 _)).trans ?_
    rw [outB_apply, show top true c.val + (a.val - 32) = (share c a).val by simp [top, share]; omega]

end Whole

/-! ### The reference -/

/-- The reference's result. -/
def refOut (X W : Whole) : FVec Ideal ⟨2, ![2048, 2048]⟩ .f32 :=
  let y := Host.dotGeneral Cert.ReferenceIdeal.dot_S2048x2048_S2048x2048_S2048x2048_1_0_0_1_n_n none X W
  let bc := fun b : BitVec 32 => broadcastInDim ⟨2, ![2048, 2048]⟩ ![] Cert.ReferenceIdeal.Gen.facts.bcast_S_S2048x2048 (constant (F := Ideal) ⟨0, ![]⟩ .f32 b)
  Host.divf y (addf (bc 0x3F800000#32) (Host.exp (Host.negf (minimumf (bc 0x42700000#32) (maximumf (bc 0xC2700000#32) y)))))

theorem refOut_apply (X W : Whole) (r n : Fin 2048) :
    (refOut X W (ix2 r n) : EReal) = Ideal.div (dot X W r n) (1 + Ideal.exp (-(min ((60 : ℝ) : EReal) (max (-((60 : ℝ) : EReal)) (dot X W r n))))) := by
  have hd : (Host.dotGeneral Cert.ReferenceIdeal.dot_S2048x2048_S2048x2048_S2048x2048_1_0_0_1_n_n none X W (ix2 r n) : EReal) = dot X W r n :=
    StackMember.dotGeneral_plain_apply none X W r n
  show Ideal.div (Host.dotGeneral Cert.ReferenceIdeal.dot_S2048x2048_S2048x2048_S2048x2048_1_0_0_1_n_n none X W (ix2 r n))
    (Ideal.ofBits .f32 0x3F800000#32 + Ideal.exp (-(min (Ideal.ofBits .f32 0x42700000#32) (max (Ideal.ofBits .f32 0xC2700000#32)
      (Host.dotGeneral Cert.ReferenceIdeal.dot_S2048x2048_S2048x2048_S2048x2048_1_0_0_1_n_n none X W (ix2 r n)))))) = _
  rw [hd, word_sixty, word_minus_sixty, Ideal.ofBits_one_f32]

/-- Where the mask holds, the product lies between −60 and 60. -/
theorem mask_apply (X W : Whole) (r n : Fin 2048) (h : Cert.On_inside_clip.fn X W (ix2 r n) = 1#1) :
    max (dot X W r n) (-(dot X W r n)) ≤ ((60 : ℝ) : EReal) := by
  have hd : (Host.dotGeneral Cert.On_inside_clip.dot_S2048x2048_S2048x2048_S2048x2048_1_0_0_1_n_n none X W (ix2 r n) : EReal) = dot X W r n :=
    StackMember.dotGeneral_plain_apply none X W r n
  have h' : BitVec.ofBool (decide (max (Host.dotGeneral Cert.On_inside_clip.dot_S2048x2048_S2048x2048_S2048x2048_1_0_0_1_n_n none X W (ix2 r n) : EReal)
      (-(Host.dotGeneral Cert.On_inside_clip.dot_S2048x2048_S2048x2048_S2048x2048_1_0_0_1_n_n none X W (ix2 r n) : EReal)) ≤ Ideal.ofBits .f32 0x42700000#32)) = 1#1 := h
  rw [hd, word_sixty] at h'
  by_contra hn
  rw [decide_eq_false hn] at h'
  exact absurd h' (by decide)

/-- The kernel's result is the reference's block, where the mask holds. -/
theorem out_eq {m : (ℓ : Loc nD τ sig) → Buf (Elt Ideal) ℓ} (ρ : Dev nD → PrngReg) {X W : Whole} (h : Blocks m X W) (c : Dev nD)
    (i : (⟨2, ![64, 2048]⟩ : Shape).Idx)
    (hi : Layout.block ⟨2, ![64, 2048]⟩ ⟨2, ![2048, 2048]⟩ 0 32 c (Cert.On_inside_clip.fn X W) (by decide) i = 1#1) :
    outAt m ρ c i = Layout.block ⟨2, ![64, 2048]⟩ ⟨2, ![2048, 2048]⟩ 0 32 c (refOut X W) (by decide) i := by
  obtain ⟨a, n, rfl⟩ : ∃ (a : Fin 64) (n : Fin 2048), i = ix2 a n := ⟨i 0, i 1, eq_ix2 i⟩
  rw [Layout.block_apply] at hi ⊢
  have e : (Layout.Tiles.idx (S := ⟨2, ![64, 2048]⟩) (T := ⟨2, ![2048, 2048]⟩) (a := 0) (k := 32) (by decide) c (ix2 a n)) = ix2 (share c a) n := by
    funext b; apply Fin.ext; fin_cases b <;> rfl
  rw [e] at hi ⊢
  refine (outAt_apply ρ h c a n).trans ?_
  rw [refOut_apply]
  exact silu_inside (mask_apply X W _ _ hi)

end Cert.Proof

end
-- ==== Proof.lean ====
/-
  The proof of the certificate: the three frames, the idealization, and the equation between the kernel's result and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_inside_clip
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section Frames

open Cert.KernelIdeal Cert.KernelIdeal.Gen

variable {F : FTy → Type} [FloatOps F]

/-- Over any float values: the kernel ends, its arguments are unchanged, every semaphore counter is zero. -/
theorem frame_any (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c 0).trans (final_x m ρ c), (h.1 c 1).trans (final_w m ρ c)⟩, h.2⟩) (run_main m ρ)

end Frames

/-- The kernel over the extended reals. -/
theorem frame_ideal : Cert.quiescent_KernelIdeal (hKernelIdeal := Cert.KernelIdeal.Gen.facts) := fun m ρ _ => frame_any (F := Ideal) m ρ

/-- The kernel at machine floats: the two programs have one text. -/
theorem frame_kernel : Cert.quiescent_Kernel (hKernel := Cert.Kernel.Gen.facts) := fun m ρ _ => by
  rw [defs_same]
  exact frame_any (F := Bits) m ρ

/-- The reference ends, its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's, wherever the product lies between −60 and 60. -/
theorem values : Cert.algebraic_KernelIdeal_ReferenceIdeal_on_inside_clip (hKernelIdeal := Cert.KernelIdeal.Gen.facts)
    (hReferenceIdeal := Cert.ReferenceIdeal.Gen.facts) (hOn_inside_clip := Cert.On_inside_clip.Gen.facts) := by
  intro m ρ m' ρ' _ hagree
  let X : Whole := m' (((0 : Dev Cert.ReferenceIdeal.nD).tc : Thread _ Cert.ReferenceIdeal.τ).loc Cert.ReferenceIdeal.main_arg0)
  let W : Whole := m' (((0 : Dev Cert.ReferenceIdeal.nD).tc : Thread _ Cert.ReferenceIdeal.τ).loc Cert.ReferenceIdeal.main_arg1)
  have hb : Blocks m X W := ⟨fun c => (hagree c).1, fun c => (hagree c).2⟩
  refine ⟨refOut X W, ?_, ?_⟩
  · exact (θ_run Cert.KernelIdeal.defs _ _).mono
      (fun _ h c => ⟨fun i hi => (congrFun ((h.1 c 2).trans (final_out m ρ c)) i).trans (out_eq ρ hb c i hi),
        (h.1 c 0).trans (final_x m ρ c), (h.1 c 1).trans (final_w m ρ c)⟩) (run_main (F := Ideal) m ρ)
  · exact (θ_run Cert.ReferenceIdeal.defs _ _).mono (fun _ h => ⟨fun i _ => congrFun (h 0).1 i, (h 0).2⟩)
      (Cert.ReferenceIdeal.Value.run (F := Ideal) m' ρ')

theorem claim : Cert.Claim := ⟨Cert.Kernel.Gen.facts, Cert.KernelIdeal.Gen.facts, Cert.ReferenceIdeal.Gen.facts, Cert.On_inside_clip.Gen.facts,
  frame_kernel, frame_ideal, frame_reference, trivial, values⟩

end Cert.Proof

end
